-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_grads [hPre_finite_grads : Cert.Pre_finite_grads.Facts] (m : (ℓ : Loc Cert.KernelIdeal.nD Cert.KernelIdeal.τ Cert.KernelIdeal.sig) → Buf (Elt Ideal) ℓ) : Prop :=
  ∀ c : Dev Cert.KernelIdeal.nD,
    (Cert.Pre_finite_grads.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_grads [hPre_finite_grads : Cert.Pre_finite_grads.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_grads.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_grads [hKernelIdeal : Cert.KernelIdeal.Facts] [hPre_finite_grads : Cert.Pre_finite_grads.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_grads m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_grads [hReferenceIdeal : Cert.ReferenceIdeal.Facts] [hPre_finite_grads : Cert.Pre_finite_grads.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_grads m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_grads [hKernelIdeal : Cert.KernelIdeal.Facts] [hReferenceIdeal : Cert.ReferenceIdeal.Facts] [hPre_finite_grads : Cert.Pre_finite_grads.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_grads m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)) (v2 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19_0) = v0 c
          ∧ r.2.mem ((c.tc : Thread Cert.ReferenceIdeal.nD Cert.ReferenceIdeal.τ).loc Cert.ReferenceIdeal.main_v19_1) = v1 c
          ∧ r.2.mem ((c.tc : Thread Cert.ReferenceIdeal.nD Cert.ReferenceIdeal.τ).loc Cert.ReferenceIdeal.main_v19_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_grads : Cert.Pre_finite_grads.Facts),
    quiescent_Kernel (hKernel := hKernel)
    ∧ quiescent_KernelIdeal (hKernelIdeal := hKernelIdeal)
    ∧ quiescent_KernelIdeal_pre_finite_grads (hKernelIdeal := hKernelIdeal) (hPre_finite_grads := hPre_finite_grads)
    ∧ quiescent_ReferenceIdeal (hReferenceIdeal := hReferenceIdeal)
    ∧ quiescent_ReferenceIdeal_pre_finite_grads (hReferenceIdeal := hReferenceIdeal) (hPre_finite_grads := hPre_finite_grads)
    ∧ preserves_Kernel_KernelIdeal
    ∧ algebraic_KernelIdeal_ReferenceIdeal_pre_finite_grads (hKernelIdeal := hKernelIdeal) (hReferenceIdeal := hReferenceIdeal) (hPre_finite_grads := hPre_finite_grads)
-- ==== Pre_finite_grads.lean ====
abbrev S5x384x36x128 : Shape := ⟨4, ![5, 384, 36, 128]⟩
abbrev S5x384x4x128 : Shape := ⟨4, ![5, 384, 4, 128]⟩
abbrev S5x384 : Shape := ⟨2, ![5, 384]⟩
abbrev S4608x5632 : Shape := ⟨2, ![4608, 5632]⟩
abbrev S4608x176 : Shape := ⟨2, ![4608, 176]⟩
abbrev S_ : Shape := ⟨0, ![]⟩

class Facts : Prop where
  bcast_S_S5x384x36x128 : S_.BroadcastsInDim S5x384x36x128 (![] : Fin 0 → Fin S5x384x36x128.rank)
  reducesTo_S5x384x36x128_S_d0_1_2_3 : S5x384x36x128.ReducesTo [0, 1, 2, 3] S_
  h_S_ : 0 < S_.numel
  bcast_S_S5x384x4x128 : S_.BroadcastsInDim S5x384x4x128 (![] : Fin 0 → Fin S5x384x4x128.rank)
  reducesTo_S5x384x4x128_S_d0_1_2_3 : S5x384x4x128.ReducesTo [0, 1, 2, 3] S_

variable [Facts]

def fn {F : FTy → Type} [FloatOps F] (main_arg0 : FVec F S5x384x36x128 .bf16) (main_arg1 : FVec F S5x384x4x128 .bf16) (main_arg2 : FVec F S5x384x4x128 .bf16) (main_arg3 : IVec S5x384 32) (main_arg4 : FVec F S4608x5632 .fp8e4m3) (main_arg5 : IVec S4608x176 8) : IVec S_ 1 :=
  let main_v0 : FVec F S5x384x36x128 .bf16 := Host.absf main_arg0
  let main_cst : FVec F S_ .bf16 := constant S_ .bf16 0x7F7F#16
  let main_v1 : FVec F S5x384x36x128 .bf16 := broadcastInDim S5x384x36x128 ![] bcast_S_S5x384x36x128 main_cst
  let main_v2 : IVec S5x384x36x128 1 := cmpf .ole main_v0 main_v1
  let main_c : IVec S_ 1 := constantI S_ 1 1#1
  let main_v3 : IVec S_ 1 := (fun x v => Host.reduce IntOp.andi x v reducesTo_S5x384x36x128_S_d0_1_2_3 h_S_) main_v2 main_c
  let main_v4 : FVec F S5x384x4x128 .bf16 := Host.absf main_arg1
  let main_cst_0 : FVec F S_ .bf16 := constant S_ .bf16 0x7F7F#16
  let main_v5 : FVec F S5x384x4x128 .bf16 := broadcastInDim S5x384x4x128 ![] bcast_S_S5x384x4x128 main_cst_0
  let main_v6 : IVec S5x384x4x128 1 := cmpf .ole main_v4 main_v5
  let main_c_1 : IVec S_ 1 := constantI S_ 1 1#1
  let main_v7 : IVec S_ 1 := (fun x v => Host.reduce IntOp.andi x v reducesTo_S5x384x4x128_S_d0_1_2_3 h_S_) main_v6 main_c_1
  let main_v8 : IVec S_ 1 := andi main_v3 main_v7
  let main_v9 : FVec F S5x384x4x128 .bf16 := Host.absf main_arg2
  let main_cst_2 : FVec F S_ .bf16 := constant S_ .bf16 0x7F7F#16
  let main_v10 : FVec F S5x384x4x128 .bf16 := broadcastInDim S5x384x4x128 ![] bcast_S_S5x384x4x128 main_cst_2
  let main_v11 : IVec S5x384x4x128 1 := cmpf .ole main_v9 main_v10
  let main_c_3 : IVec S_ 1 := constantI S_ 1 1#1
  let main_v12 : IVec S_ 1 := (fun x v => Host.reduce IntOp.andi x v reducesTo_S5x384x4x128_S_d0_1_2_3 h_S_) main_v11 main_c_3
  let main_v13 : IVec S_ 1 := andi main_v8 main_v12
  main_v13
-- ==== Kernel.lean ====
abbrev S5x384x36x128 : Shape := ⟨4, ![5, 384, 36, 128]⟩
abbrev S5x384x4x128 : Shape := ⟨4, ![5, 384, 4, 128]⟩
abbrev S5x384 : Shape := ⟨2, ![5, 384]⟩
abbrev S4608x5632 : Shape := ⟨2, ![4608, 5632]⟩
abbrev S4608x176 : Shape := ⟨2, ![4608, 176]⟩
abbrev S5x36x384x128 : Shape := ⟨4, ![5, 36, 384, 128]⟩
abbrev S5x4x384x128 : Shape := ⟨4, ![5, 4, 384, 128]⟩
abbrev S176x4608 : Shape := ⟨2, ![176, 4608]⟩
abbrev S64 : Shape := ⟨1, ![64]⟩
abbrev S_ : Shape := ⟨0, ![]⟩
abbrev S64x1 : Shape := ⟨2, ![64, 1]⟩
abbrev S64x128 : Shape := ⟨2, ![64, 128]⟩
abbrev S5x384x4608 : Shape := ⟨3, ![5, 384, 4608]⟩
abbrev S5x384x5632 : Shape := ⟨3, ![5, 384, 5632]⟩
abbrev S5x176x384 : Shape := ⟨3, ![5, 176, 384]⟩
abbrev S1x36x384x128 : Shape := ⟨4, ![1, 36, 384, 128]⟩
abbrev S1x4x384x128 : Shape := ⟨4, ![1, 4, 384, 128]⟩
abbrev S512x5632 : Shape := ⟨2, ![512, 5632]⟩
abbrev S176x512 : Shape := ⟨2, ![176, 512]⟩
abbrev S1x384x512 : Shape := ⟨3, ![1, 384, 512]⟩
abbrev S1x384x5632 : Shape := ⟨3, ![1, 384, 5632]⟩
abbrev S1x176x384 : Shape := ⟨3, ![1, 176, 384]⟩
abbrev S384x5632 : Shape := ⟨2, ![384, 5632]⟩
abbrev S176x384 : Shape := ⟨2, ![176, 384]⟩
abbrev S5x128 : Shape := ⟨2, ![5, 128]⟩
abbrev S128 : Shape := ⟨1, ![128]⟩
abbrev S1x128 : Shape := ⟨2, ![1, 128]⟩
abbrev S1x1x128x128 : Shape := ⟨4, ![1, 1, 128, 128]⟩
abbrev S128x128 : Shape := ⟨2, ![128, 128]⟩
abbrev S32x128 : Shape := ⟨2, ![32, 128]⟩
abbrev S4x128 : Shape := ⟨2, ![4, 128]⟩
abbrev S255x4x128 : Shape := ⟨3, ![255, 4, 128]⟩
abbrev S1x4x128 : Shape := ⟨3, ![1, 4, 128]⟩
abbrev S1x128x128 : Shape := ⟨3, ![1, 128, 128]⟩
abbrev S80x512 : Shape := ⟨2, ![80, 512]⟩
abbrev S256x512 : Shape := ⟨2, ![256, 512]⟩
abbrev S512x256 : Shape := ⟨2, ![512, 256]⟩
abbrev S512x128 : Shape := ⟨2, ![512, 128]⟩
abbrev S512x128x1 : Shape := ⟨3, ![512, 128, 1]⟩
abbrev S384x256 : Shape := ⟨2, ![384, 256]⟩
abbrev S384x512 : Shape := ⟨2, ![384, 512]⟩
abbrev S5x384x176 : Shape := ⟨3, ![5, 384, 176]⟩

abbrev nBuf : Space → Nat
  | .hbm => 32
  | .vmem => 20
  | .smem => 0
  | _ => 0

abbrev bufTy : (tb : Table) → Fin (tcTables nBuf tb) → BufTy
  | .hbm, ⟨0, _⟩ => ⟨S5x384x36x128, .bf16⟩
  | .hbm, ⟨1, _⟩ => ⟨S5x384x4x128, .bf16⟩
  | .hbm, ⟨2, _⟩ => ⟨S5x384x4x128, .bf16⟩
  | .hbm, ⟨3, _⟩ => ⟨S5x384, .i32⟩
  | .hbm, ⟨4, _⟩ => ⟨S4608x5632, .fp8e4m3⟩
  | .hbm, ⟨5, _⟩ => ⟨S4608x176, .i8⟩
  | .hbm, ⟨6, _⟩ => ⟨S5x36x384x128, .bf16⟩
  | .hbm, ⟨7, _⟩ => ⟨S5x4x384x128, .bf16⟩
  | .hbm, ⟨8, _⟩ => ⟨S5x4x384x128, .bf16⟩
  | .hbm, ⟨9, _⟩ => ⟨S176x4608, .i8⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S64x1, .f32⟩
  | .hbm, ⟨27, _⟩ => ⟨S64x128, .f32⟩
  | .hbm, ⟨28, _⟩ => ⟨S5x384x4608, .bf16⟩
  | .hbm, ⟨29, _⟩ => ⟨S5x384x5632, .fp8e5m2⟩
  | .hbm, ⟨30, _⟩ => ⟨S5x176x384, .i8⟩
  | .hbm, ⟨31, _⟩ => ⟨S5x384x176, .i8⟩
  | .local _ .vmem, ⟨0, _⟩ => ⟨S1x36x384x128, .bf16⟩
  | .local _ .vmem, ⟨1, _⟩ => ⟨S1x36x384x128, .bf16⟩
  | .local _ .vmem, ⟨2, _⟩ => ⟨S1x4x384x128, .bf16⟩
  | .local _ .vmem, ⟨3, _⟩ => ⟨S1x4x384x128, .bf16⟩
  | .local _ .vmem, ⟨4, _⟩ => ⟨S1x4x384x128, .bf16⟩
  | .local _ .vmem, ⟨5, _⟩ => ⟨S1x4x384x128, .bf16⟩
  | .local _ .vmem, ⟨6, _⟩ => ⟨S5x384, .i32⟩
  | .local _ .vmem, ⟨7, _⟩ => ⟨S64x128, .f32⟩
  | .local _ .vmem, ⟨8, _⟩ => ⟨S512x5632, .fp8e4m3⟩
  | .local _ .vmem, ⟨9, _⟩ => ⟨S512x5632, .fp8e4m3⟩
  | .local _ .vmem, ⟨10, _⟩ => ⟨S176x512, .i8⟩
  | .local _ .vmem, ⟨11, _⟩ => ⟨S176x512, .i8⟩
  | .local _ .vmem, ⟨12, _⟩ => ⟨S1x384x512, .bf16⟩
  | .local _ .vmem, ⟨13, _⟩ => ⟨S1x384x512, .bf16⟩
  | .local _ .vmem, ⟨14, _⟩ => ⟨S1x384x5632, .fp8e5m2⟩
  | .local _ .vmem, ⟨15, _⟩ => ⟨S1x384x5632, .fp8e5m2⟩
  | .local _ .vmem, ⟨16, _⟩ => ⟨S1x176x384, .i8⟩
  | .local _ .vmem, ⟨17, _⟩ => ⟨S1x176x384, .i8⟩
  | .local _ .vmem, ⟨18, _⟩ => ⟨S384x5632, .bf16⟩
  | .local _ .vmem, ⟨19, _⟩ => ⟨S176x384, .i32⟩
  | _, _ => ⟨S5x384x36x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17_0 : Ref sig .tc := ⟨.hbm, 28, rfl⟩
abbrev main_v17_1 : Ref sig .tc := ⟨.hbm, 29, rfl⟩
abbrev main_v17_2 : Ref sig .tc := ⟨.hbm, 30, rfl⟩
abbrev main_v18 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![5, 9], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x36x384x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4x384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S5x384 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x5632 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S176x512 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x384x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x384x5632 .fp8e5m2 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x176x384 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S5x384x36x128 : Shape := ⟨4, ![5, 384, 36, 128]⟩
abbrev S5x384x4x128 : Shape := ⟨4, ![5, 384, 4, 128]⟩
abbrev S5x384 : Shape := ⟨2, ![5, 384]⟩
abbrev S4608x5632 : Shape := ⟨2, ![4608, 5632]⟩
abbrev S4608x176 : Shape := ⟨2, ![4608, 176]⟩
abbrev S64 : Shape := ⟨1, ![64]⟩
abbrev S_ : Shape := ⟨0, ![]⟩
abbrev S5x384x1 : Shape := ⟨3, ![5, 384, 1]⟩
abbrev S1x1x64 : Shape := ⟨3, ![1, 1, 64]⟩
abbrev S5x384x64 : Shape := ⟨3, ![5, 384, 64]⟩
abbrev S5x384x4608 : Shape := ⟨3, ![5, 384, 4608]⟩
abbrev S5x384x5632 : Shape := ⟨3, ![5, 384, 5632]⟩
abbrev S5x384x176 : Shape := ⟨3, ![5, 384, 176]⟩
abbrev S5x384x1x64 : Shape := ⟨4, ![5, 384, 1, 64]⟩
abbrev S5x384x36x64 : Shape := ⟨4, ![5, 384, 36, 64]⟩
abbrev S5x384x4x64 : Shape := ⟨4, ![5, 384, 4, 64]⟩
abbrev S5x384x44x128 : Shape := ⟨4, ![5, 384, 44, 128]⟩
abbrev S5x384x176x32 : Shape := ⟨4, ![5, 384, 176, 32]⟩
abbrev S5x384x176x1 : Shape := ⟨4, ![5, 384, 176, 1]⟩
abbrev S1920x5632 : Shape := ⟨2, ![1920, 5632]⟩
abbrev S4608x176x32 : Shape := ⟨3, ![4608, 176, 32]⟩
abbrev S4608x176x1 : Shape := ⟨3, ![4608, 176, 1]⟩
abbrev S1920x4608 : Shape := ⟨2, ![1920, 4608]⟩

abbrev nBuf : Space → Nat
  | .hbm => 33
  | .vmem => 10
  | .smem => 0
  | _ => 0

abbrev bufTy : (tb : Table) → Fin (tcTables nBuf tb) → BufTy
  | .hbm, ⟨0, _⟩ => ⟨S5x384x36x128, .bf16⟩
  | .hbm, ⟨1, _⟩ => ⟨S5x384x4x128, .bf16⟩
  | .hbm, ⟨2, _⟩ => ⟨S5x384x4x128, .bf16⟩
  | .hbm, ⟨3, _⟩ => ⟨S5x384, .i32⟩
  | .hbm, ⟨4, _⟩ => ⟨S4608x5632, .fp8e4m3⟩
  | .hbm, ⟨5, _⟩ => ⟨S4608x176, .i8⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S5x384, .f32⟩
  | .hbm, ⟨23, _⟩ => ⟨S5x384x1, .f32⟩
  | .hbm, ⟨24, _⟩ => ⟨S1x1x64, .f32⟩
  | .hbm, ⟨25, _⟩ => ⟨S5x384x64, .f32⟩
  | .hbm, ⟨26, _⟩ => ⟨S5x384x64, .f32⟩
  | .hbm, ⟨27, _⟩ => ⟨S5x384x64, .f32⟩
  | .hbm, ⟨28, _⟩ => ⟨S5x384x64, .f32⟩
  | .hbm, ⟨29, _⟩ => ⟨S5x384x64, .f32⟩
  | .hbm, ⟨30, _⟩ => ⟨S5x384x4608, .bf16⟩
  | .hbm, ⟨31, _⟩ => ⟨S5x384x5632, .fp8e5m2⟩
  | .hbm, ⟨32, _⟩ => ⟨S5x384x176, .i8⟩
  | .local _ .vmem, ⟨0, _⟩ => ⟨S5x384x36x128, .bf16⟩
  | .local _ .vmem, ⟨1, _⟩ => ⟨S5x384x4x128, .bf16⟩
  | .local _ .vmem, ⟨2, _⟩ => ⟨S5x384x4x128, .bf16⟩
  | .local _ .vmem, ⟨3, _⟩ => ⟨S5x384x64, .f32⟩
  | .local _ .vmem, ⟨4, _⟩ => ⟨S5x384x64, .f32⟩
  | .local _ .vmem, ⟨5, _⟩ => ⟨S4608x5632, .fp8e4m3⟩
  | .local _ .vmem, ⟨6, _⟩ => ⟨S4608x176, .i8⟩
  | .local _ .vmem, ⟨7, _⟩ => ⟨S5x384x4608, .bf16⟩
  | .local _ .vmem, ⟨8, _⟩ => ⟨S5x384x5632, .fp8e5m2⟩
  | .local _ .vmem, ⟨9, _⟩ => ⟨S5x384x176, .i8⟩
  | _, _ => ⟨S5x384x36x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19_0 : Ref sig .tc := ⟨.hbm, 30, rfl⟩
abbrev main_v19_1 : Ref sig .tc := ⟨.hbm, 31, rfl⟩
abbrev main_v19_2 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S5x384x36x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x384x4x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x384x4x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5x384x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5x384x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4608x5632 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4608x176 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S5x384x4608 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S5x384x5632 .fp8e5m2 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S5x384x176 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.FRuns.lean ====
/- The frame of the kernel at any arithmetic, first part: the program around its one region, the arrays' contents when the
   region is entered, each window's block at a point, and what the runs of the body are stated over. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_v18}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg5`: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      (Pipeline.RDat.FramePostR.arr_in h c 3 rfl).trans ((hA c 3).trans (V_main_arg3 m c)),
      (Pipeline.RDat.FramePostR.arr_in h c 5 rfl).trans ((hA c 5).trans (V_main_arg4 m c)),
      ((h c).2 main_arg5 (Finset.mem_sdiff.mpr ⟨Pipeline.mem_restRefs_of main_arg5 (by decide) (by decide), by decide⟩)).trans (V_main_arg5 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 9) — by arithmetic of the point. -/
theorem hcond0_0 : ∀ t : Fin cfg0.N, cond0_0 (grid0.coords t) ↔ t.val % 9 = 0 :=
  (fun t => by
    have ht : t.val < 45 := Nat.lt_of_lt_of_eq t.isLt N_0
    have e0 : (grid0.coords t 0).val = t.val / 9 % 5 := Pipeline.Grid.coords_val t 0 (by decide) rfl
    have e1 : (grid0.coords t 1).val = t.val / 1 % 9 := Pipeline.Grid.coords_val t 1 (by decide) rfl
    simp only [cond0_0, k0_cond1, e0, e1]
    word_cmp
   : ∀ t : Fin grid0.N, cond0_0 (grid0.coords t) ↔ t.val % 9 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x36x384x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4x384x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4x384x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S5x384 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x5632 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S176x512 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x384x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x384x5632 .fp8e5m2 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x176x384 .i8 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S384x5632 .bf16 := Memref.whole cc0_scratch0
abbrev scM0_1 : Memref sig .tc .vmem S176x384 .i32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Gen

end
-- ==== Proof.FRunA.lean ====
/- The frame of the kernel, second part: one run of the body at the first point of a batch, nothing named of what the
   outputs and the scratch are left with. -/
module

public import proofs.«01_k».proof.Proof.FRuns

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 11688000 in
/-- The body's triple IN CASE A (`scf.if` 0 taken: points 0, 9, 18, 27, 36): on whole staging memrefs — the inputs' at their contents,
    the FORGOTTEN outputs' (7, 8, 9) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .vmem S1x36x384x128 .bf16) (harg2 : arg2.IsWhole) (arg3 : Memref sig .tc .vmem S1x4x384x128 .bf16) (harg3 : arg3.IsWhole) (arg4 : Memref sig .tc .vmem S1x4x384x128 .bf16) (harg4 : arg4.IsWhole) (arg5 : Memref sig .tc .vmem S5x384 .i32) (harg5 : arg5.IsWhole) (arg6 : Memref sig .tc .vmem S64x128 .f32) (harg6 : arg6.IsWhole) (arg7 : Memref sig .tc .vmem S512x5632 .fp8e4m3) (harg7 : arg7.IsWhole) (arg8 : Memref sig .tc .vmem S176x512 .i8) (harg8 : arg8.IsWhole) (arg9 : Memref sig .tc .vmem S1x384x512 .bf16) (harg9 : arg9.IsWhole) (arg10 : Memref sig .tc .vmem S1x384x5632 .fp8e5m2) (harg10 : arg10.IsWhole) (arg11 : Memref sig .tc .vmem S1x176x384 .i8) (harg11 : arg11.IsWhole) (arg12 : Memref sig .tc .vmem S384x5632 .bf16) (harg12 : arg12.IsWhole) (arg13 : Memref sig .tc .vmem S176x384 .i32) (harg13 : arg13.IsWhole) (hc0 : cond0_0 i)
    (x0 : Vec F S1x36x384x128 .bf16) (x1 : Vec F S1x4x384x128 .bf16) (x2 : Vec F S1x4x384x128 .bf16) (x3 : Vec F S5x384 .i32) (x4 : Vec F S64x128 .f32) (x5 : Vec F S512x5632 .fp8e4m3) (x6 : Vec F S176x512 .i8) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13) K := by
    intro E K
    simp only [cc0__body_eq_skeleton]; unfold cc0__body_skel
    simp only [k0_part354_eq_skeleton, k0_part348_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part349_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part350_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part351_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part352_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part353_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    iexists _, _; isplitr; swap; · iexact HS1
    ipureintro; rfl

end Cert.Kernel.Gen

end
-- ==== Proof.FRunB.lean ====
/- The frame of the kernel, third part: one run of the body at the other points of a batch. -/
module

public import proofs.«01_k».proof.Proof.FRunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE B (`scf.if` 0 not taken: points 1, 2, … 44: 40 of 45): on whole staging memrefs — the inputs' at their contents,
    the FORGOTTEN outputs' (7, 8, 9) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .vmem S1x36x384x128 .bf16) (harg2 : arg2.IsWhole) (arg3 : Memref sig .tc .vmem S1x4x384x128 .bf16) (harg3 : arg3.IsWhole) (arg4 : Memref sig .tc .vmem S1x4x384x128 .bf16) (harg4 : arg4.IsWhole) (arg5 : Memref sig .tc .vmem S5x384 .i32) (harg5 : arg5.IsWhole) (arg6 : Memref sig .tc .vmem S64x128 .f32) (harg6 : arg6.IsWhole) (arg7 : Memref sig .tc .vmem S512x5632 .fp8e4m3) (harg7 : arg7.IsWhole) (arg8 : Memref sig .tc .vmem S176x512 .i8) (harg8 : arg8.IsWhole) (arg9 : Memref sig .tc .vmem S1x384x512 .bf16) (harg9 : arg9.IsWhole) (arg10 : Memref sig .tc .vmem S1x384x5632 .fp8e5m2) (harg10 : arg10.IsWhole) (arg11 : Memref sig .tc .vmem S1x176x384 .i8) (harg11 : arg11.IsWhole) (arg12 : Memref sig .tc .vmem S384x5632 .bf16) (harg12 : arg12.IsWhole) (arg13 : Memref sig .tc .vmem S176x384 .i32) (harg13 : arg13.IsWhole) (hc0 : ¬cond0_0 i)
    (x0 : Vec F S1x36x384x128 .bf16) (x1 : Vec F S1x4x384x128 .bf16) (x2 : Vec F S1x4x384x128 .bf16) (x3 : Vec F S5x384 .i32) (x4 : Vec F S64x128 .f32) (x5 : Vec F S512x5632 .fp8e4m3) (x6 : Vec F S176x512 .i8) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13) K := by
    intro E K
    simp only [cc0__body_eq_skeleton]; unfold cc0__body_skel
    simp only [k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    iexists _, _; isplitr; swap; · iexact HS1
    ipureintro; rfl

end Cert.Kernel.Gen

end
-- ==== Proof.FFrame.lean ====
/- The frame of the kernel, last part: the body's obligation at every point, the run of the whole program and the frame. -/
module

public import proofs.«01_k».proof.Proof.FRunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (7, 8, 9): nothing reads what the kernel leaves in them, so nothing
    of it is named (Lib/Pipeline/Dat.lean `Dat.toRForget`). -/
def forgets0 : Fin 10 → Bool := fun w => w.val == 7 || w.val == 8 || w.val == 9

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ d, owns (c : Thread nD τ) (ms0_7 t) fullShare d)
    ∗ (∃ d, owns (c : Thread nD τ) (ms0_8 t) fullShare d)
    ∗ (∃ d, owns (c : Thread nD τ) (ms0_9 t) fullShare d))

set_option maxHeartbeats 2400000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 45 := lt_of_lt_of_eq t.isLt (show cfg0.N = 45 from N_0)
  by_cases h0 : t.val % 9 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_B c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 7, 8, 9) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Gen

end
-- ==== Proof.Pts.lean ====
/- The points of the grid at which the body quantises a batch, the windows it is never idle on, and the names of
   its staging buffers and of its two scratch buffers. -/
module

public import proofs.«01_k».proof.Proof.Gen.KernelIdeal.Frame
public import proofs.«01_k».proof.Proof.Gen.KernelIdeal.Skeleton

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 9) — by arithmetic of the point. -/
theorem hcond0_0 : ∀ t : Fin cfg0.N, cond0_0 (grid0.coords t) ↔ t.val % 9 = 0 :=
  (fun t => by
    have ht : t.val < 45 := Nat.lt_of_lt_of_eq t.isLt N_0
    have e0 : (grid0.coords t 0).val = t.val / 9 % 5 := Pipeline.Grid.coords_val t 0 (by decide) rfl
    have e1 : (grid0.coords t 1).val = t.val / 1 % 9 := Pipeline.Grid.coords_val t 1 (by decide) rfl
    simp only [cond0_0, k0_cond1, e0, e1]
    word_cmp
   : ∀ t : Fin grid0.N, cond0_0 (grid0.coords t) ↔ t.val % 9 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x36x384x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4x384x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4x384x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S5x384 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x5632 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S176x512 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x384x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x384x5632 .fp8e5m2 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x176x384 .i8 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S384x5632 .bf16 := Memref.whole cc0_scratch0
abbrev scM0_1 : Memref sig .tc .vmem S176x384 .i32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Gen

end
-- ==== Proof.RunA.lean ====
module

public import proofs.«01_k».proof.Proof.Pts

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 10940000 in
noncomputable def runA (c : Dev nD) (i : grid0.Coords) (arg2 : Memref sig .tc .vmem S1x36x384x128 .bf16) (harg2 : arg2.IsWhole) (arg3 : Memref sig .tc .vmem S1x4x384x128 .bf16) (harg3 : arg3.IsWhole) (arg4 : Memref sig .tc .vmem S1x4x384x128 .bf16) (harg4 : arg4.IsWhole) (arg5 : Memref sig .tc .vmem S5x384 .i32) (harg5 : arg5.IsWhole) (arg6 : Memref sig .tc .vmem S64x128 .f32) (harg6 : arg6.IsWhole) (arg7 : Memref sig .tc .vmem S512x5632 .fp8e4m3) (harg7 : arg7.IsWhole) (arg8 : Memref sig .tc .vmem S176x512 .i8) (harg8 : arg8.IsWhole) (arg9 : Memref sig .tc .vmem S1x384x512 .bf16) (harg9 : arg9.IsWhole) (arg10 : Memref sig .tc .vmem S1x384x5632 .fp8e5m2) (harg10 : arg10.IsWhole) (arg11 : Memref sig .tc .vmem S1x176x384 .i8) (harg11 : arg11.IsWhole) (arg12 : Memref sig .tc .vmem S384x5632 .bf16) (harg12 : arg12.IsWhole) (arg13 : Memref sig .tc .vmem S176x384 .i32) (harg13 : arg13.IsWhole) (hc0 : cond0_0 i)
    (x0 : Vec F S1x36x384x128 .bf16) (x1 : Vec F S1x4x384x128 .bf16) (x2 : Vec F S1x4x384x128 .bf16) (x3 : Vec F S5x384 .i32) (x4 : Vec F S64x128 .f32) (x5 : Vec F S512x5632 .fp8e4m3) (x6 : Vec F S176x512 .i8) :
Σ' (L7 : List (View.Piece (Elt F) S1x384x512 .bf16)), Σ' (L8 : List (View.Piece (Elt F) S1x384x5632 .fp8e5m2)), Σ' (L9 : List (View.Piece (Elt F) S1x176x384 .i8)), Σ' (LS0 : List (View.Piece (Elt F) S384x5632 .bf16)), { LS1 : List (View.Piece (Elt F) S176x384 .i32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, (arg9.view.loc (c : Thread nD τ)) ↦[arg9.view.set]{fullShare} arg9.view.writes (Elt F) f L7) ∗ (∃ f, (arg10.view.loc (c : Thread nD τ)) ↦[arg10.view.set]{fullShare} arg10.view.writes (Elt F) f L8) ∗ (∃ f, (arg11.view.loc (c : Thread nD τ)) ↦[arg11.view.set]{fullShare} arg11.view.writes (Elt F) f L9) ∗ (∃ f, (arg12.view.loc (c : Thread nD τ)) ↦[arg12.view.set]{fullShare} arg12.view.writes (Elt F) f LS0) ∗ (∃ f, (arg13.view.loc (c : Thread nD τ)) ↦[arg13.view.set]{fullShare} arg13.view.writes (Elt F) f LS1)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc0__body_eq_skeleton]; unfold cc0__body_skel
    simp only [k0_part354_eq_skeleton, k0_part348_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part349_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part350_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part351_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part352_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part353_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; iexact H7
    isplitl [H8]
    · iexists _; iexact H8
    isplitl [H9]
    · iexists _; iexact H9
    isplitl [HS0]
    · iexists _; iexact HS0
    iexists _; iexact HS1

end Cert.KernelIdeal.Gen

end
-- ==== Proof.RunB.lean ====
module

public import proofs.«01_k».proof.Proof.Pts

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 10940000 in
noncomputable def runB (c : Dev nD) (i : grid0.Coords) (arg2 : Memref sig .tc .vmem S1x36x384x128 .bf16) (harg2 : arg2.IsWhole) (arg3 : Memref sig .tc .vmem S1x4x384x128 .bf16) (harg3 : arg3.IsWhole) (arg4 : Memref sig .tc .vmem S1x4x384x128 .bf16) (harg4 : arg4.IsWhole) (arg5 : Memref sig .tc .vmem S5x384 .i32) (harg5 : arg5.IsWhole) (arg6 : Memref sig .tc .vmem S64x128 .f32) (harg6 : arg6.IsWhole) (arg7 : Memref sig .tc .vmem S512x5632 .fp8e4m3) (harg7 : arg7.IsWhole) (arg8 : Memref sig .tc .vmem S176x512 .i8) (harg8 : arg8.IsWhole) (arg9 : Memref sig .tc .vmem S1x384x512 .bf16) (harg9 : arg9.IsWhole) (arg10 : Memref sig .tc .vmem S1x384x5632 .fp8e5m2) (harg10 : arg10.IsWhole) (arg11 : Memref sig .tc .vmem S1x176x384 .i8) (harg11 : arg11.IsWhole) (arg12 : Memref sig .tc .vmem S384x5632 .bf16) (harg12 : arg12.IsWhole) (arg13 : Memref sig .tc .vmem S176x384 .i32) (harg13 : arg13.IsWhole) (hc0 : ¬cond0_0 i)
    (x0 : Vec F S1x36x384x128 .bf16) (x1 : Vec F S1x4x384x128 .bf16) (x2 : Vec F S1x4x384x128 .bf16) (x3 : Vec F S5x384 .i32) (x4 : Vec F S64x128 .f32) (x5 : Vec F S512x5632 .fp8e4m3) (x6 : Vec F S176x512 .i8) (g : Vec F S384x5632 .bf16) :
 { L7 : List (View.Piece (Elt F) S1x384x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg12 fullShare g
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, (arg9.view.loc (c : Thread nD τ)) ↦[arg9.view.set]{fullShare} arg9.view.writes (Elt F) f L7) ∗ owns (c : Thread nD τ) arg12 fullShare g) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__body_eq_skeleton]; unfold cc0__body_skel
    simp only [k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg12.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; iexact H7
    iexists _; isplitr; · ipureintro; exact harg12.read_unread _
    iexact HS0

end Cert.KernelIdeal.Gen

end
-- ==== Proof.Task.lean ====
/- What the body computes, as a few functions over vectors: one head of one block of 128 tokens quantised (`tCodes`,
   `tG`, `tE`), one tile of 128 weight columns decoded (`tW`), one step of the product (`tStep`). The body's text
   spells these functions out once for every head, block and tile. -/
module

public import proofs.«01_k».proof.Proof.Gen.KernelIdeal

@[expose] public section

set_option synthInstance.maxSize 4096

noncomputable section

namespace Cert.KernelIdeal.Gen

open Idealize.ShloMosaic Idealize.SL.Sem

variable {F : FTy → Type} [FloatOps F]

/-- The angles of one block of 128 tokens of batch `b`: the position of each token times each frequency. -/
def tAng (b : BitVec 32) (pos : Vec F S5x128 .i32) (freq : Vec F S64x128 .f32) : FVec F S64x128 .f32 :=
  mulf (broadcastTo S64x128 (sitofp .f32 (shapeCast S1x128 (multiReductionI .add [0] S128
      (select (cmpi .eq (iota .tc S5x128 32 [0] iota_S5x128_d0_w32) (broadcast S5x128 b)) pos (broadcast S5x128 0#32)) 0#32 reduces_S5x128_S128 rfl)
      shapeCasts_S128_S1x128)) broadcasts_S1x128_S64x128) (shapeCast S64x128 freq shapeCasts_S64x128_S64x128)

/-- One head's gradient block, its features along the rows. -/
def tX (v : Vec F S1x1x128x128 .bf16) : FVec F S128x128 .f32 :=
  extf .f32 (transpose S128x128 [1, 0] (shapeCast S128x128 v shapeCasts_S1x1x128x128_S128x128) transposes_S128x128_p1_0_S128x128) bitsLt_bf16_f32

/-- The lower half of the features. -/
def tLo (v : Vec F S1x1x128x128 .bf16) : FVec F S64x128 .f32 :=
  extractStridedSlice S64x128 ![0, 0] (tX v) slices_S128x128_o0_0_S64x128

/-- The upper half of the features. -/
def tHi (v : Vec F S1x1x128x128 .bf16) : FVec F S64x128 .f32 :=
  extractStridedSlice S64x128 ![64, 0] (tX v) slices_S128x128_o64_0_S64x128

/-- The lower half rotated back by the angles. -/
def tR1 (b : BitVec 32) (pos : Vec F S5x128 .i32) (freq : Vec F S64x128 .f32) (v : Vec F S1x1x128x128 .bf16) : FVec F S64x128 .f32 :=
  addf (mulf (tLo v) (cos (tAng b pos freq))) (mulf (tHi v) (sin (tAng b pos freq)))

/-- The upper half rotated back by the angles. -/
def tR2 (b : BitVec 32) (pos : Vec F S5x128 .i32) (freq : Vec F S64x128 .f32) (v : Vec F S1x1x128x128 .bf16) : FVec F S64x128 .f32 :=
  subf (mulf (tHi v) (cos (tAng b pos freq))) (mulf (tLo v) (sin (tAng b pos freq)))

/-- The first group of 32 features of a half. -/
def tP0 (v : FVec F S64x128 .f32) : FVec F S32x128 .f32 := extractStridedSlice S32x128 ![0, 0] v slices_S64x128_o0_0_S32x128

/-- The second group of 32 features of a half. -/
def tP1 (v : FVec F S64x128 .f32) : FVec F S32x128 .f32 := extractStridedSlice S32x128 ![32, 0] v slices_S64x128_o32_0_S32x128

/-- The largest absolute value of a group, for each token. -/
def tAbsMax (p : FVec F S32x128 .f32) : FVec F S1x128 .f32 :=
  shapeCast S1x128 (multiReduction .maximumf [0] S128 (absf p) 0xFF800000#32 reduces_S32x128_S128 (.inl rfl) rfl) shapeCasts_S128_S1x128

/-- The four groups' largest absolute values. -/
def tMax (v1 v2 : FVec F S64x128 .f32) : FVec F S4x128 .f32 :=
  concatenate S4x128 0 [⟨S1x128, tAbsMax (tP0 v1)⟩, ⟨S1x128, tAbsMax (tP1 v1)⟩, ⟨S1x128, tAbsMax (tP0 v2)⟩, ⟨S1x128, tAbsMax (tP1 v2)⟩]
    concatenates_S1x128_S1x128_S1x128_S1x128_S4x128_d0

/-- How many powers of two do not exceed each scaled maximum. -/
def tCount (a : FVec F S4x128 .f32) : IVec S4x128 32 :=
  multiReductionI .add [0] S4x128 (extui 32 (cmpf .oge
      (broadcastTo S255x4x128 (shapeCast S1x4x128 (mulf a (broadcast S4x128 (Scalar.ofBits .f32 0x37924925#32))) shapeCasts_S4x128_S1x4x128)
        broadcasts_S1x4x128_S255x4x128)
      (bitcastToFloat .f32 (shli (addi (iota .tc S255x4x128 32 [0] iota_S255x4x128_d0_w32) (broadcast S255x4x128 1#32)) (broadcast S255x4x128 23#32))))
    natLt_1_32) 0#32 reduces_S255x4x128_S4x128 rfl

/-- The biased exponents of the four groups. -/
def tExp (a : FVec F S4x128 .f32) : IVec S4x128 32 :=
  select (andi (cmpi .sgt (tCount a) (broadcast S4x128 0#32)) (cmpi .slt (tCount a) (broadcast S4x128 255#32)))
    (addi (tCount a) (broadcast S4x128 1#32)) (broadcast S4x128 127#32)

/-- The biased exponents, as they are stored. -/
def tE (v1 v2 : FVec F S64x128 .f32) : IVec S4x128 32 := shapeCast S4x128 (tExp (tMax v1 v2)) shapeCasts_S4x128_S4x128

/-- The factors that scale the groups down. -/
def tInv (e : IVec S4x128 32) : FVec F S4x128 .f32 :=
  bitcastToFloat .f32 (shli (subi (broadcast S4x128 254#32) e) (broadcast S4x128 23#32))

/-- The factors that scale the groups back. -/
def tDq (e : IVec S4x128 32) : FVec F S4x128 .bf16 :=
  truncf .bf16 (bitcastToFloat .f32 (shli e (broadcast S4x128 23#32))) bitsLt_bf16_f32

/-- The codes of one group: scaled, clipped and rounded. -/
def tCode (p : FVec F S32x128 .f32) (r : FVec F S1x128 .f32) : FVec F S32x128 .fp8e5m2 :=
  truncf .fp8e5m2 (minimumf (broadcast S32x128 (Scalar.ofBits .f32 0x47600000#32))
    (maximumf (broadcast S32x128 (Scalar.ofBits .f32 0xC7600000#32)) (mulf p (broadcastTo S32x128 r broadcasts_S1x128_S32x128)))) bitsLt_fp8e5m2_f32

/-- One group decoded again. -/
def tDeq (c : FVec F S32x128 .fp8e5m2) (r : FVec F S1x128 .bf16) : FVec F S32x128 .bf16 :=
  mulf (extf .bf16 c bitsLt_fp8e5m2_bf16) (broadcastTo S32x128 r broadcasts_S1x128_S32x128)

/-- The codes of one head of one block, as they are stored. -/
def tCodes (v1 v2 : FVec F S64x128 .f32) : FVec F S1x128x128 .fp8e5m2 :=
  shapeCast S1x128x128 (transpose S128x128 [1, 0] (concatenate S128x128 0 [
    ⟨S32x128, tCode (tP0 v1) (extractStridedSlice S1x128 ![0, 0] (tInv (tExp (tMax v1 v2))) slices_S4x128_o0_0_S1x128)⟩,
    ⟨S32x128, tCode (tP1 v1) (extractStridedSlice S1x128 ![1, 0] (tInv (tExp (tMax v1 v2))) slices_S4x128_o1_0_S1x128)⟩,
    ⟨S32x128, tCode (tP0 v2) (extractStridedSlice S1x128 ![2, 0] (tInv (tExp (tMax v1 v2))) slices_S4x128_o2_0_S1x128)⟩,
    ⟨S32x128, tCode (tP1 v2) (extractStridedSlice S1x128 ![3, 0] (tInv (tExp (tMax v1 v2))) slices_S4x128_o3_0_S1x128)⟩]
    concatenates_S32x128_S32x128_S32x128_S32x128_S128x128_d0) transposes_S128x128_p1_0_S128x128) shapeCasts_S128x128_S1x128x128

/-- The decoded gradient of one head of one block, as it is stored. -/
def tG (v1 v2 : FVec F S64x128 .f32) : FVec F S128x128 .bf16 :=
  shapeCast S128x128 (transpose S128x128 [1, 0] (concatenate S128x128 0 [
    ⟨S32x128, tDeq (tCode (tP0 v1) (extractStridedSlice S1x128 ![0, 0] (tInv (tExp (tMax v1 v2))) slices_S4x128_o0_0_S1x128))
      (extractStridedSlice S1x128 ![0, 0] (tDq (tExp (tMax v1 v2))) slices_S4x128_o0_0_S1x128)⟩,
    ⟨S32x128, tDeq (tCode (tP1 v1) (extractStridedSlice S1x128 ![1, 0] (tInv (tExp (tMax v1 v2))) slices_S4x128_o1_0_S1x128))
      (extractStridedSlice S1x128 ![1, 0] (tDq (tExp (tMax v1 v2))) slices_S4x128_o1_0_S1x128)⟩,
    ⟨S32x128, tDeq (tCode (tP0 v2) (extractStridedSlice S1x128 ![2, 0] (tInv (tExp (tMax v1 v2))) slices_S4x128_o2_0_S1x128))
      (extractStridedSlice S1x128 ![2, 0] (tDq (tExp (tMax v1 v2))) slices_S4x128_o2_0_S1x128)⟩,
    ⟨S32x128, tDeq (tCode (tP1 v2) (extractStridedSlice S1x128 ![3, 0] (tInv (tExp (tMax v1 v2))) slices_S4x128_o3_0_S1x128))
      (extractStridedSlice S1x128 ![3, 0] (tDq (tExp (tMax v1 v2))) slices_S4x128_o3_0_S1x128)⟩]
    concatenates_S32x128_S32x128_S32x128_S32x128_S128x128_d0) transposes_S128x128_p1_0_S128x128) shapeCasts_S128x128_S128x128

/-- The scale codes of the weight block, one row per output feature, filled up with zeros. -/
def tWs (x : Vec F S176x512 .i8) : IVec S512x256 32 :=
  transpose S512x256 [1, 0] (concatenate S256x512 0 [⟨S176x512, extui 32 (shapeCast S176x512 x shapeCasts_S176x512_S176x512) natLt_8_32⟩,
    ⟨S80x512, broadcast S80x512 0#32⟩] concatenates_S176x512_S80x512_S256x512_d0) transposes_S256x512_p1_0_S512x256

/-- The lane number divided by 32, rounded down. -/
def tLane : IVec S512x128 32 :=
  have i : IVec S512x128 32 := iota .tc S512x128 32 [1] iota_S512x128_d1_w32
  select (andi (cmpi .ne (subi (extui 32 (cmpi .sgt i (broadcast S512x128 0#32)) natLt_1_32) (extui 32 (cmpi .slt i (broadcast S512x128 0#32)) natLt_1_32))
      (broadcast S512x128 (Scalar.subi (Scalar.extui (Scalar.cmpi .sgt 32#32 0#32)) (Scalar.extui (Scalar.cmpi .slt 32#32 0#32)))))
      (cmpi .ne (remsi i (broadcast S512x128 32#32)) (broadcast S512x128 0#32)))
    (subi (divsi i (broadcast S512x128 32#32)) (broadcast S512x128 1#32)) (divsi i (broadcast S512x128 32#32))

/-- The group each lane of a weight tile takes its scale from, counted from `base`. -/
def tIdx (base : BitVec 32) : IVec S512x128 32 :=
  shapeCast S512x128 (shapeCast S512x128x1 (select (cmpi .slt (addi (broadcast S512x128 base) tLane) (broadcast S512x128 0#32))
    (addi (addi (broadcast S512x128 base) tLane) (broadcast S512x128 128#32)) (addi (broadcast S512x128 base) tLane))
    shapeCasts_S512x128_S512x128x1) shapeCasts_S512x128x1_S512x128

/-- One tile of 128 weight columns decoded, from the half `ws` of the scale codes and the tile's first group `base`. -/
def tW (ws : IVec S512x128 32) (base : BitVec 32) (w : Vec F S512x128 .fp8e4m3) : FVec F S512x128 .bf16 :=
  mulf (extf .bf16 w bitsLt_fp8e4m3_bf16)
    (truncf .bf16 (bitcastToFloat .f32 (shli (dynamicGather 1 ws (tIdx base)) (broadcast S512x128 23#32))) bitsLt_bf16_f32)

/-- The first 128 groups' scale codes. -/
def tWs0 (x : Vec F S176x512 .i8) : IVec S512x128 32 := extractStridedSlice S512x128 ![0, 0] (tWs x) slices_S512x256_o0_0_S512x128

/-- The later groups' scale codes. -/
def tWs1 (x : Vec F S176x512 .i8) : IVec S512x128 32 := extractStridedSlice S512x128 ![0, 128] (tWs x) slices_S512x256_o0_128_S512x128

/-- One step of the product: 256 columns of the decoded gradient against two decoded weight tiles. -/
def tStep (g : Vec F S384x256 .bf16) (w0 w1 : FVec F S512x128 .bf16) : FVec F S384x512 .f32 :=
  matmul dot_S384x256_S512x256_S384x512_1_1_0_0_n_n none g
    (concatenate S512x256 1 [⟨S512x128, w0⟩, ⟨S512x128, w1⟩] concatenates_S512x128_S512x128_S512x256_d1) (constant S384x512 .f32 0x00000000#32)

/-- The finished product, as it is stored. -/
def tOut (a : FVec F S384x512 .f32) : FVec F S1x384x512 .bf16 :=
  shapeCast S1x384x512 (truncf .bf16 a bitsLt_bf16_f32) shapeCasts_S384x512_S1x384x512

/-- The scale codes, as they are stored. -/
def tScales (e : Vec F S176x384 .i32) : IVec S1x176x384 8 :=
  shapeCast S1x176x384 (trunci 8 e natLt_8_32) shapeCasts_S176x384_S1x176x384

end Cert.KernelIdeal.Gen

end
-- ==== Proof.Lists.lean ====
/- The lists of stores that a run of the body leaves (`runA`: at the first point of a batch; `runB`: at the others),
   each written as one family over the heads and the blocks of tokens. -/
module

public import proofs.«01_k».proof.Proof.RunA
public import proofs.«01_k».proof.Proof.RunB
public import proofs.«01_k».proof.Proof.Task

@[expose] public section

set_option maxRecDepth 100000

noncomputable section

namespace Cert.KernelIdeal.Gen

open Idealize.ShloMosaic Idealize.SL.Sem

variable {F : FTy → Type} [FloatOps F]
variable (c : Dev nD) (i : grid0.Coords)
  (arg2 : Memref sig .tc .vmem S1x36x384x128 .bf16) (harg2 : arg2.IsWhole) (arg3 : Memref sig .tc .vmem S1x4x384x128 .bf16) (harg3 : arg3.IsWhole)
  (arg4 : Memref sig .tc .vmem S1x4x384x128 .bf16) (harg4 : arg4.IsWhole) (arg5 : Memref sig .tc .vmem S5x384 .i32) (harg5 : arg5.IsWhole)
  (arg6 : Memref sig .tc .vmem S64x128 .f32) (harg6 : arg6.IsWhole) (arg7 : Memref sig .tc .vmem S512x5632 .fp8e4m3) (harg7 : arg7.IsWhole)
  (arg8 : Memref sig .tc .vmem S176x512 .i8) (harg8 : arg8.IsWhole) (arg9 : Memref sig .tc .vmem S1x384x512 .bf16) (harg9 : arg9.IsWhole)
  (arg10 : Memref sig .tc .vmem S1x384x5632 .fp8e5m2) (harg10 : arg10.IsWhole) (arg11 : Memref sig .tc .vmem S1x176x384 .i8) (harg11 : arg11.IsWhole)
  (arg12 : Memref sig .tc .vmem S384x5632 .bf16) (harg12 : arg12.IsWhole) (arg13 : Memref sig .tc .vmem S176x384 .i32) (harg13 : arg13.IsWhole)
  (hc0 : cond0_0 i) (hc1 : ¬ cond0_0 i)
  (x0 : Vec F S1x36x384x128 .bf16) (x1 : Vec F S1x4x384x128 .bf16) (x2 : Vec F S1x4x384x128 .bf16) (x3 : Vec F S5x384 .i32)
  (x4 : Vec F S64x128 .f32) (x5 : Vec F S512x5632 .fp8e4m3) (x6 : Vec F S176x512 .i8) (g : Vec F S384x5632 .bf16)

/-- The block of tokens of the `k`-th store from the last. -/
def tbOf (k : Fin 132) : Fin 3 := ⟨(131 - k) / 44, by omega⟩

/-- The head of the `k`-th store from the last. -/
def hdOf (k : Fin 132) : Fin 44 := ⟨(131 - k) % 44, by omega⟩

/-- The positions of one block of tokens. -/
def pPos (tb : Fin 3) : Vec F S5x128 .i32 :=
  View.readAt (Elt F) arg5.view (Rect.unit (s := S5x384) ![0, 128 * tb.val] S5x128.size (fun a => by
    match a with | 0 => show 0 + 5 ≤ 5; omega | 1 => show 128 * tb.val + 128 ≤ 384; omega)).toLoadRect (harg5.unread x3)

/-- The frequencies. -/
def pFreq : Vec F S64x128 .f32 :=
  View.readAt (Elt F) arg6.view (Rect.unit (s := S64x128) ![0, 0] S64x128.size inb_S64x128_S64x128_0_0).toLoadRect (harg6.unread x4)

/-- One query head's gradient at one block of tokens. -/
def pDq (tb : Fin 3) (h : Fin 36) : Vec F S1x1x128x128 .bf16 :=
  View.readAt (Elt F) arg2.view (Rect.unit (s := S1x36x384x128) ![0, h.val, 128 * tb.val, 0] S1x1x128x128.size (fun a => by
    match a with
    | 0 => show 0 + 1 ≤ 1; omega
    | 1 => show h.val + 1 ≤ 36; omega
    | 2 => show 128 * tb.val + 128 ≤ 384; omega
    | 3 => show 0 + 128 ≤ 128; omega)).toLoadRect (harg2.unread x0)

/-- One key or value head's gradient at one block of tokens. -/
def pDkv (arg : Memref sig .tc .vmem S1x4x384x128 .bf16) (harg : arg.IsWhole) (x : Vec F S1x4x384x128 .bf16) (tb : Fin 3) (h : Fin 4) : Vec F S1x1x128x128 .bf16 :=
  View.readAt (Elt F) arg.view (Rect.unit (s := S1x4x384x128) ![0, h.val, 128 * tb.val, 0] S1x1x128x128.size (fun a => by
    match a with
    | 0 => show 0 + 1 ≤ 1; omega
    | 1 => show h.val + 1 ≤ 4; omega
    | 2 => show 128 * tb.val + 128 ≤ 384; omega
    | 3 => show 0 + 128 ≤ 128; omega)).toLoadRect (harg.unread x)

/-- The lower half of one head's gradient at one block of tokens: rotated back for the query and key heads. -/
def pV1 (tb : Fin 3) (h : Fin 44) : FVec F S64x128 .f32 :=
  if hq : h.val < 36 then tR1 (BitVec.ofNat 32 (i 0).val) (pPos arg5 harg5 x3 tb) (pFreq arg6 harg6 x4) (pDq arg2 harg2 x0 tb ⟨h.val, hq⟩)
  else if hk : h.val < 40 then tR1 (BitVec.ofNat 32 (i 0).val) (pPos arg5 harg5 x3 tb) (pFreq arg6 harg6 x4) (pDkv arg3 harg3 x1 tb ⟨h.val - 36, by omega⟩)
  else tLo (pDkv arg4 harg4 x2 tb ⟨h.val - 40, by omega⟩)

/-- The upper half of one head's gradient at one block of tokens: rotated back for the query and key heads. -/
def pV2 (tb : Fin 3) (h : Fin 44) : FVec F S64x128 .f32 :=
  if hq : h.val < 36 then tR2 (BitVec.ofNat 32 (i 0).val) (pPos arg5 harg5 x3 tb) (pFreq arg6 harg6 x4) (pDq arg2 harg2 x0 tb ⟨h.val, hq⟩)
  else if hk : h.val < 40 then tR2 (BitVec.ofNat 32 (i 0).val) (pPos arg5 harg5 x3 tb) (pFreq arg6 harg6 x4) (pDkv arg3 harg3 x1 tb ⟨h.val - 36, by omega⟩)
  else tHi (pDkv arg4 harg4 x2 tb ⟨h.val - 40, by omega⟩)

/-- Where one head's codes are stored. -/
def rCodes (tb : Fin 3) (h : Fin 44) : Rect S1x384x5632 :=
  Rect.unit ![0, 128 * tb.val, 128 * h.val] S1x128x128.size (fun a => by
    match a with
    | 0 => show 0 + 1 ≤ 1; omega
    | 1 => show 128 * tb.val + 128 ≤ 384; omega
    | 2 => show 128 * h.val + 128 ≤ 5632; omega)

/-- Where one head's decoded gradient is stored. -/
def rG (tb : Fin 3) (h : Fin 44) : Rect S384x5632 :=
  Rect.unit ![128 * tb.val, 128 * h.val] S128x128.size (fun a => by
    match a with
    | 0 => show 128 * tb.val + 128 ≤ 384; omega
    | 1 => show 128 * h.val + 128 ≤ 5632; omega)

/-- Where one head's exponents are stored. -/
def rE (tb : Fin 3) (h : Fin 44) : Rect S176x384 :=
  Rect.unit ![4 * h.val, 128 * tb.val] S4x128.size (fun a => by
    match a with
    | 0 => show 4 * h.val + 4 ≤ 176; omega
    | 1 => show 128 * tb.val + 128 ≤ 384; omega)

/-- The stores of the codes. -/
def fCodes : List (View.Piece (Elt F) S1x384x5632 .fp8e5m2) :=
  List.ofFn fun k : Fin 132 => ⟨rCodes (tbOf k) (hdOf k),
    tCodes (pV1 i arg2 harg2 arg3 harg3 arg4 harg4 arg5 harg5 arg6 harg6 x0 x1 x2 x3 x4 (tbOf k) (hdOf k))
      (pV2 i arg2 harg2 arg3 harg3 arg4 harg4 arg5 harg5 arg6 harg6 x0 x1 x2 x3 x4 (tbOf k) (hdOf k))⟩

/-- The stores of the decoded gradient. -/
def fG : List (View.Piece (Elt F) S384x5632 .bf16) :=
  List.ofFn fun k : Fin 132 => ⟨rG (tbOf k) (hdOf k),
    tG (pV1 i arg2 harg2 arg3 harg3 arg4 harg4 arg5 harg5 arg6 harg6 x0 x1 x2 x3 x4 (tbOf k) (hdOf k))
      (pV2 i arg2 harg2 arg3 harg3 arg4 harg4 arg5 harg5 arg6 harg6 x0 x1 x2 x3 x4 (tbOf k) (hdOf k))⟩

/-- The stores of the exponents. -/
def fE : List (View.Piece (Elt F) S176x384 .i32) :=
  List.ofFn fun k : Fin 132 => ⟨rE (tbOf k) (hdOf k),
    tE (pV1 i arg2 harg2 arg3 harg3 arg4 harg4 arg5 harg5 arg6 harg6 x0 x1 x2 x3 x4 (tbOf k) (hdOf k))
      (pV2 i arg2 harg2 arg3 harg3 arg4 harg4 arg5 harg5 arg6 harg6 x0 x1 x2 x3 x4 (tbOf k) (hdOf k))⟩

/-- One decoded weight tile. -/
def pW (kt : Fin 44) : FVec F S512x128 .bf16 :=
  tW (if kt.val < 32 then tWs0 (View.readAt (Elt F) arg8.view (Rect.unit (s := S176x512) ![0, 0] S176x512.size inb_S176x512_S176x512_0_0).toLoadRect (harg8.unread x6))
      else tWs1 (View.readAt (Elt F) arg8.view (Rect.unit (s := S176x512) ![0, 0] S176x512.size inb_S176x512_S176x512_0_0).toLoadRect (harg8.unread x6)))
    (BitVec.ofNat 32 (4 * (kt.val % 32)))
    (View.readAt (Elt F) arg7.view (Rect.unit (s := S512x5632) ![0, 128 * kt.val] S512x128.size (fun a => by
      match a with | 0 => show 0 + 512 ≤ 512; omega | 1 => show 128 * kt.val + 128 ≤ 5632; omega)).toLoadRect (harg7.unread x5))

/-- Where one chunk of 256 columns of the decoded gradient lies. -/
def rChunk (k : Fin 22) : Rect S384x5632 :=
  Rect.unit ![0, 256 * k.val] S384x256.size (fun a => by
    match a with | 0 => show 0 + 384 ≤ 384; omega | 1 => show 256 * k.val + 256 ≤ 5632; omega)

/-- One step of the product from the chunks `gs`. -/
def pStep (gs : Fin 22 → Vec F S384x256 .bf16) (k : Fin 22) : FVec F S384x512 .f32 :=
  tStep (gs k) (pW arg7 harg7 arg8 harg8 x5 x6 ⟨2 * k.val, by omega⟩) (pW arg7 harg7 arg8 harg8 x5 x6 ⟨2 * k.val + 1, by omega⟩)

/-- The product accumulated over the chunks `gs`, as it is stored. -/
def pDx (gs : Fin 22 → Vec F S384x256 .bf16) : FVec F S1x384x512 .bf16 :=
  tOut ((List.ofFn fun k : Fin 21 => pStep arg7 harg7 arg8 harg8 x5 x6 gs k.succ).foldl addf (pStep arg7 harg7 arg8 harg8 x5 x6 gs 0))

/-- The stores of the codes are the family. -/
theorem runA_codes : (runA c i arg2 harg2 arg3 harg3 arg4 harg4 arg5 harg5 arg6 harg6 arg7 harg7 arg8 harg8 arg9 harg9 arg10 harg10 arg11 harg11
    arg12 harg12 arg13 harg13 hc0 x0 x1 x2 x3 x4 x5 x6).2.1 = fCodes i arg2 harg2 arg3 harg3 arg4 harg4 arg5 harg5 arg6 harg6 x0 x1 x2 x3 x4 := rfl

/-- The stores of the decoded gradient are the family. -/
theorem runA_g : (runA c i arg2 harg2 arg3 harg3 arg4 harg4 arg5 harg5 arg6 harg6 arg7 harg7 arg8 harg8 arg9 harg9 arg10 harg10 arg11 harg11
    arg12 harg12 arg13 harg13 hc0 x0 x1 x2 x3 x4 x5 x6).2.2.2.1 = fG i arg2 harg2 arg3 harg3 arg4 harg4 arg5 harg5 arg6 harg6 x0 x1 x2 x3 x4 := rfl

/-- The stores of the exponents are the family. -/
theorem runA_e : (runA c i arg2 harg2 arg3 harg3 arg4 harg4 arg5 harg5 arg6 harg6 arg7 harg7 arg8 harg8 arg9 harg9 arg10 harg10 arg11 harg11
    arg12 harg12 arg13 harg13 hc0 x0 x1 x2 x3 x4 x5 x6).2.2.2.2.val = fE i arg2 harg2 arg3 harg3 arg4 harg4 arg5 harg5 arg6 harg6 x0 x1 x2 x3 x4 := rfl

/-- The store of the scale codes. -/
theorem runA_scales : (runA c i arg2 harg2 arg3 harg3 arg4 harg4 arg5 harg5 arg6 harg6 arg7 harg7 arg8 harg8 arg9 harg9 arg10 harg10 arg11 harg11
    arg12 harg12 arg13 harg13 hc0 x0 x1 x2 x3 x4 x5 x6).2.2.1 =
    [⟨Rect.unit (s := S1x176x384) ![0, 0, 0] S1x176x384.size inb_S1x176x384_S1x176x384_0_0_0,
      tScales (F := F) (arg13.view.readCov (fE i arg2 harg2 arg3 harg3 arg4 harg4 arg5 harg5 arg6 harg6 x0 x1 x2 x3 x4) (Rect.unit (s := S176x384) ![0, 0] S176x384.size inb_S176x384_S176x384_0_0).toLoadRect)⟩] := rfl

end Cert.KernelIdeal.Gen
-- ==== Proof.ListsDx.lean ====
/- The store of the product in a run of the body, as a sum over the chunks of the gradient. -/
module

public import proofs.«01_k».proof.Proof.Lists

@[expose] public section

set_option maxRecDepth 100000

noncomputable section

namespace Cert.KernelIdeal.Gen

open Idealize.ShloMosaic Idealize.SL.Sem

variable {F : FTy → Type} [FloatOps F]
variable (c : Dev nD) (i : grid0.Coords)
  (arg2 : Memref sig .tc .vmem S1x36x384x128 .bf16) (harg2 : arg2.IsWhole) (arg3 : Memref sig .tc .vmem S1x4x384x128 .bf16) (harg3 : arg3.IsWhole)
  (arg4 : Memref sig .tc .vmem S1x4x384x128 .bf16) (harg4 : arg4.IsWhole) (arg5 : Memref sig .tc .vmem S5x384 .i32) (harg5 : arg5.IsWhole)
  (arg6 : Memref sig .tc .vmem S64x128 .f32) (harg6 : arg6.IsWhole) (arg7 : Memref sig .tc .vmem S512x5632 .fp8e4m3) (harg7 : arg7.IsWhole)
  (arg8 : Memref sig .tc .vmem S176x512 .i8) (harg8 : arg8.IsWhole) (arg9 : Memref sig .tc .vmem S1x384x512 .bf16) (harg9 : arg9.IsWhole)
  (arg10 : Memref sig .tc .vmem S1x384x5632 .fp8e5m2) (harg10 : arg10.IsWhole) (arg11 : Memref sig .tc .vmem S1x176x384 .i8) (harg11 : arg11.IsWhole)
  (arg12 : Memref sig .tc .vmem S384x5632 .bf16) (harg12 : arg12.IsWhole) (arg13 : Memref sig .tc .vmem S176x384 .i32) (harg13 : arg13.IsWhole)
  (hc0 : cond0_0 i) (hc1 : ¬ cond0_0 i)
  (x0 : Vec F S1x36x384x128 .bf16) (x1 : Vec F S1x4x384x128 .bf16) (x2 : Vec F S1x4x384x128 .bf16) (x3 : Vec F S5x384 .i32)
  (x4 : Vec F S64x128 .f32) (x5 : Vec F S512x5632 .fp8e4m3) (x6 : Vec F S176x512 .i8) (g : Vec F S384x5632 .bf16)

set_option maxHeartbeats 20000000 in
/-- The store of the product, at the first point of a batch. -/
theorem runA_dx : (runA c i arg2 harg2 arg3 harg3 arg4 harg4 arg5 harg5 arg6 harg6 arg7 harg7 arg8 harg8 arg9 harg9 arg10 harg10 arg11 harg11
    arg12 harg12 arg13 harg13 hc0 x0 x1 x2 x3 x4 x5 x6).1 =
    [⟨Rect.unit (s := S1x384x512) ![0, 0, 0] S1x384x512.size inb_S1x384x512_S1x384x512_0_0_0,
      pDx arg7 harg7 arg8 harg8 x5 x6 fun k => arg12.view.readCov (runA.sl.HS0_132 c i arg2 harg2 arg3 harg3 arg4 harg4 arg5 harg5 arg6 harg6 x0 x1 x2 x3 x4) (rChunk k).toLoadRect⟩] := rfl

set_option maxHeartbeats 20000000 in
/-- The store of the product, at the other points. -/
theorem runB_dx : (runB c i arg2 harg2 arg3 harg3 arg4 harg4 arg5 harg5 arg6 harg6 arg7 harg7 arg8 harg8 arg9 harg9 arg10 harg10 arg11 harg11
    arg12 harg12 arg13 harg13 hc1 x0 x1 x2 x3 x4 x5 x6 g).val =
    [⟨Rect.unit (s := S1x384x512) ![0, 0, 0] S1x384x512.size inb_S1x384x512_S1x384x512_0_0_0,
      pDx arg7 harg7 arg8 harg8 x5 x6 fun k => View.readAt (Elt F) arg12.view (rChunk k).toLoadRect (harg12.unread g)⟩] := rfl

end Cert.KernelIdeal.Gen
-- ==== Proof.KPoint.lean ====
/- The body's functions over vectors (`Task`), read at an index. -/
module

public import proofs.«01_k».proof.Proof.Task
public import Idealize.ShloMosaic.Lib.Pointwise

@[expose] public section

noncomputable section

namespace Cert.KernelIdeal.Gen

open Idealize.ShloMosaic Idealize.SL.Sem

/-- A vector's rows may be named by equal numbers. -/
theorem row_congr {α : Type} {n k : ℕ} (v : (⟨2, ![n, k]⟩ : Shape).Idx → α) {i j : Fin n} (h : i.val = j.val) (l : Fin k) :
    v (ix2 i l) = v (ix2 j l) := by rw [Fin.ext h]

/-- The two halves of one head, as one table: feature `c` of token `l`. -/
def vG (v1 v2 : FVec Ideal S64x128 .f32) (c : Fin 128) (l : Fin 128) : EReal :=
  if h : c.val < 64 then v1 (ix2 ⟨c.val, h⟩ l) else v2 (ix2 ⟨c.val - 64, by omega⟩ l)

theorem vG_lo (v1 v2 : FVec Ideal S64x128 .f32) (c t : Fin 128) (i : Fin 64) (h : i.val = c.val) : v1 (ix2 i t) = vG v1 v2 c t := by
  unfold vG; rw [dif_pos (by omega)]; exact row_congr v1 h t

theorem vG_hi (v1 v2 : FVec Ideal S64x128 .f32) (c t : Fin 128) (i : Fin 64) (h : 64 + i.val = c.val) : v2 (ix2 i t) = vG v1 v2 c t := by
  unfold vG; rw [dif_neg (by omega)]; exact row_congr v2 (by simp; omega) t

theorem grp_row (a : IVec S4x128 32) (c t : Fin 128) (j : Fin 4) (h : j.val = c.val / 32) : a (ix2 j t) = a (ix2 ⟨c.val / 32, by omega⟩ t) :=
  row_congr a h t

/-- The largest absolute value of a group. -/
theorem tAbsMax_apply (p : FVec Ideal S32x128 .f32) (z : Fin 1) (l : Fin 128) :
    tAbsMax p (ix2 z l) = Finset.univ.fold max (Ideal.ofBits .f32 0xFF800000#32) fun x : Fin 32 => FloatOps.absf (F := Ideal) (φ := .f32) (p (ix2 x l)) := by
  pointwise [tAbsMax]

/-- The four groups' largest absolute values. -/
theorem tMax_apply (v1 v2 : FVec Ideal S64x128 .f32) (j : Fin 4) (l : Fin 128) :
    tMax v1 v2 (ix2 j l) = Finset.univ.fold max (Ideal.ofBits .f32 0xFF800000#32) fun x : Fin 32 =>
      FloatOps.absf (F := Ideal) (φ := .f32) (vG v1 v2 ⟨32 * j.val + x.val, by omega⟩ l) := by
  have h0 : ∀ x : Fin 32, tP0 v1 (ix2 x l) = vG v1 v2 ⟨x.val, by omega⟩ l := fun x => by
    unfold vG; rw [dif_pos (show x.val < 64 by omega)]; pointwise [tP0]
  have h1 : ∀ x : Fin 32, tP1 v1 (ix2 x l) = vG v1 v2 ⟨32 + x.val, by omega⟩ l := fun x => by
    unfold vG; rw [dif_pos (show 32 + x.val < 64 by omega)]; pointwise [tP1]
  have h2 : ∀ x : Fin 32, tP0 v2 (ix2 x l) = vG v1 v2 ⟨64 + x.val, by omega⟩ l := fun x => by
    unfold vG; rw [dif_neg (show ¬ 64 + x.val < 64 by omega)]; pointwise [tP0]
  have h3 : ∀ x : Fin 32, tP1 v2 (ix2 x l) = vG v1 v2 ⟨96 + x.val, by omega⟩ l := fun x => by
    unfold vG; rw [dif_neg (show ¬ 96 + x.val < 64 by omega)]; pointwise [tP1]
    exact row_congr v2 (by simp; omega) l
  have hj : tMax v1 v2 (ix2 j l) = if h : j.val < 1 then tAbsMax (tP0 v1) (ix2 ⟨j.val, h⟩ l) else
      if h : j.val - 1 < 1 then tAbsMax (tP1 v1) (ix2 ⟨j.val - 1, h⟩ l) else
      if h : j.val - 1 - 1 < 1 then tAbsMax (tP0 v2) (ix2 ⟨j.val - 1 - 1, h⟩ l) else tAbsMax (tP1 v2) (ix2 ⟨j.val - 1 - 1 - 1, by omega⟩ l) := by
    pointwise [tMax]
  rw [hj]
  simp only [tAbsMax_apply, h0, h1, h2, h3]
  fin_cases j <;> simp

/-- The biased exponent of one group, from its largest absolute value scaled. -/
def kcount (q : EReal) : BitVec 32 :=
  Finset.univ.fold IntOp.addi 0#32 fun x : Fin 255 => BitVec.setWidth 32 (BitVec.ofBool (decide
    (Ideal.ofBits .f32 (IntOp.shli .vector (IntOp.addi (BitVec.ofNat 32 x.val) 1#32) 23#32) ≤ q)))

/-- The biased exponent a scaled largest value is given. -/
def kexp (q : EReal) : BitVec 32 :=
  Scalar.select (IntOp.andi (IntOp.cmpi .sgt (kcount q) 0#32) (IntOp.cmpi .slt (kcount q) 255#32)) (IntOp.addi (kcount q) 1#32) 127#32

theorem tCount_apply (a : FVec Ideal S4x128 .f32) (i : Fin 4) (l : Fin 128) :
    tCount a (ix2 i l) = kcount (a (ix2 i l) * Ideal.ofBits .f32 0x37924925#32) := by
  pointwise [tCount, kcount]

theorem tExp_apply (a : FVec Ideal S4x128 .f32) (i : Fin 4) (l : Fin 128) :
    tExp a (ix2 i l) = kexp (a (ix2 i l) * Ideal.ofBits .f32 0x37924925#32) := by
  have h : tExp a (ix2 i l) = Scalar.select (IntOp.andi (IntOp.cmpi .sgt (tCount a (ix2 i l)) 0#32) (IntOp.cmpi .slt (tCount a (ix2 i l)) 255#32))
      (IntOp.addi (tCount a (ix2 i l)) 1#32) 127#32 := by pointwise [tExp]
  rw [h, tCount_apply]; rfl

/-- The stored exponents. -/
theorem tE_apply (v1 v2 : FVec Ideal S64x128 .f32) (i : Fin 4) (l : Fin 128) :
    tE v1 v2 (ix2 i l) = tExp (tMax v1 v2) (ix2 i l) := by
  pointwise [tE]

/-- The codes of one head. -/
theorem tCodes_apply (v1 v2 : FVec Ideal S64x128 .f32) (z : Fin 1) (t : Fin 128) (c : Fin 128) :
    tCodes v1 v2 (ix3 z t c) = min (Ideal.ofBits .f32 0x47600000#32) (max (Ideal.ofBits .f32 0xC7600000#32) (vG v1 v2 c t *
      Ideal.ofBits .f32 (IntOp.shli .vector (IntOp.subi 254#32 (tExp (tMax v1 v2) (ix2 ⟨c.val / 32, by omega⟩ t))) 23#32))) := by
  pointwise [tCodes, tCode, tInv, tP0, tP1]
  by_cases h0 : c.val < 32
  · rw [dif_pos h0, vG_lo v1 v2 c t _ rfl, grp_row (tExp (tMax v1 v2)) c t 0 (by simp; omega)]
  · rw [dif_neg h0]
    by_cases h1 : c.val - 32 < 32
    · rw [dif_pos h1, vG_lo v1 v2 c t _ (by dsimp only; omega), grp_row (tExp (tMax v1 v2)) c t 1 (by simp; omega)]
    · rw [dif_neg h1]
      by_cases h2 : c.val - 32 - 32 < 32
      · rw [dif_pos h2, vG_hi v1 v2 c t _ (by dsimp only; omega), grp_row (tExp (tMax v1 v2)) c t 2 (by simp; omega)]
      · rw [dif_neg h2, vG_hi v1 v2 c t _ (by dsimp only; omega), grp_row (tExp (tMax v1 v2)) c t 3 (by simp; omega)]

/-- The decoded gradient of one head. -/
theorem tG_apply (v1 v2 : FVec Ideal S64x128 .f32) (t : Fin 128) (c : Fin 128) :
    tG v1 v2 (ix2 t c) = min (Ideal.ofBits .f32 0x47600000#32) (max (Ideal.ofBits .f32 0xC7600000#32) (vG v1 v2 c t *
      Ideal.ofBits .f32 (IntOp.shli .vector (IntOp.subi 254#32 (tExp (tMax v1 v2) (ix2 ⟨c.val / 32, by omega⟩ t))) 23#32))) *
      Ideal.ofBits .f32 (IntOp.shli .vector (tExp (tMax v1 v2) (ix2 ⟨c.val / 32, by omega⟩ t)) 23#32) := by
  pointwise [tG, tDeq, tCode, tInv, tDq, tP0, tP1]
  by_cases h0 : c.val < 32
  · rw [dif_pos h0, vG_lo v1 v2 c t _ rfl, grp_row (tExp (tMax v1 v2)) c t 0 (by simp; omega)]
  · rw [dif_neg h0]
    by_cases h1 : c.val - 32 < 32
    · rw [dif_pos h1, vG_lo v1 v2 c t _ (by dsimp only; omega), grp_row (tExp (tMax v1 v2)) c t 1 (by simp; omega)]
    · rw [dif_neg h1]
      by_cases h2 : c.val - 32 - 32 < 32
      · rw [dif_pos h2, vG_hi v1 v2 c t _ (by dsimp only; omega), grp_row (tExp (tMax v1 v2)) c t 2 (by simp; omega)]
      · rw [dif_neg h2, vG_hi v1 v2 c t _ (by dsimp only; omega), grp_row (tExp (tMax v1 v2)) c t 3 (by simp; omega)]

/-- The angles. -/
theorem tAng_apply (b : BitVec 32) (pos : Vec Ideal S5x128 .i32) (freq : Vec Ideal S64x128 .f32) (i : Fin 64) (l : Fin 128) :
    tAng b pos freq (ix2 i l) = ((Finset.univ.fold IntOp.addi 0#32 fun x : Fin 5 =>
      Scalar.select (IntOp.cmpi .eq (BitVec.ofNat 32 x.val) b) (pos (ix2 x l)) 0#32).toInt : ℝ) * freq (ix2 i l) := by
  pointwise [tAng]
  rfl

/-- The lower half, rotated back. -/
theorem tR1_apply (b : BitVec 32) (pos : Vec Ideal S5x128 .i32) (freq : Vec Ideal S64x128 .f32) (v : Vec Ideal S1x1x128x128 .bf16) (i : Fin 64) (l : Fin 128) :
    tR1 b pos freq v (ix2 i l) = v (ix4 0 0 l ⟨i.val, by omega⟩) * Ideal.cos (tAng b pos freq (ix2 i l))
      + v (ix4 0 0 l ⟨64 + i.val, by omega⟩) * Ideal.sin (tAng b pos freq (ix2 i l)) := by
  pointwise [tR1, tLo, tHi, tX]

/-- The upper half, rotated back. -/
theorem tR2_apply (b : BitVec 32) (pos : Vec Ideal S5x128 .i32) (freq : Vec Ideal S64x128 .f32) (v : Vec Ideal S1x1x128x128 .bf16) (i : Fin 64) (l : Fin 128) :
    tR2 b pos freq v (ix2 i l) = v (ix4 0 0 l ⟨64 + i.val, by omega⟩) * Ideal.cos (tAng b pos freq (ix2 i l))
      - v (ix4 0 0 l ⟨i.val, by omega⟩) * Ideal.sin (tAng b pos freq (ix2 i l)) := by
  pointwise [tR2, tLo, tHi, tX]

/-- The lower half as it is. -/
theorem tLo_apply (v : Vec Ideal S1x1x128x128 .bf16) (i : Fin 64) (l : Fin 128) : tLo v (ix2 i l) = v (ix4 0 0 l ⟨i.val, by omega⟩) := by
  pointwise [tLo, tX]

/-- The upper half as it is. -/
theorem tHi_apply (v : Vec Ideal S1x1x128x128 .bf16) (i : Fin 64) (l : Fin 128) : tHi v (ix2 i l) = v (ix4 0 0 l ⟨64 + i.val, by omega⟩) := by
  pointwise [tHi, tX]

/-- The scale codes of the weight block. -/
theorem tWs_apply (x : Vec Ideal S176x512 .i8) (r : Fin 512) (c : Fin 256) :
    tWs (F := Ideal) x (ix2 r c) = if h : c.val < 176 then BitVec.setWidth 32 (x (ix2 ⟨c.val, h⟩ r)) else 0#32 := by
  pointwise [tWs]

theorem tWs0_apply (x : Vec Ideal S176x512 .i8) (r : Fin 512) (c : Fin 128) :
    tWs0 (F := Ideal) x (ix2 r c) = BitVec.setWidth 32 (x (ix2 ⟨c.val, by omega⟩ r)) := by
  have h : tWs0 (F := Ideal) x (ix2 r c) = tWs (F := Ideal) x (ix2 r ⟨c.val, by omega⟩) := by pointwise [tWs0]
  rw [h, tWs_apply, dif_pos (show c.val < 176 by omega)]

theorem tWs1_apply (x : Vec Ideal S176x512 .i8) (r : Fin 512) (c : Fin 128) :
    tWs1 (F := Ideal) x (ix2 r c) = if h : 128 + c.val < 176 then BitVec.setWidth 32 (x (ix2 ⟨128 + c.val, h⟩ r)) else 0#32 := by
  have h : tWs1 (F := Ideal) x (ix2 r c) = tWs (F := Ideal) x (ix2 r ⟨128 + c.val, by omega⟩) := by pointwise [tWs1]
  rw [h, tWs_apply]

/-- The lane number divided by 32. -/
theorem tLane_apply (r : Fin 512) (c : Fin 128) : tLane (ix2 r c) = BitVec.ofNat 32 (c.val / 32) := by
  pointwise [tLane]
  revert c
  decide +kernel

/-- The group a lane takes its scale from. -/
theorem tIdx_apply (b : Fin 125) (r : Fin 512) (c : Fin 128) : (tIdx (BitVec.ofNat 32 b.val) (ix2 r c)).toNat = b.val + c.val / 32 := by
  pointwise [tIdx]
  rw [tLane_apply]
  have hq : c.val / 32 < 4 := by omega
  revert hq
  generalize c.val / 32 = q
  intro hq
  have h : ∀ (b : Fin 125) (q : Fin 4), (Scalar.select (IntOp.cmpi .slt (IntOp.addi (BitVec.ofNat 32 b.val) (BitVec.ofNat 32 q.val)) 0#32)
      (IntOp.addi (IntOp.addi (BitVec.ofNat 32 b.val) (BitVec.ofNat 32 q.val)) 128#32)
      (IntOp.addi (BitVec.ofNat 32 b.val) (BitVec.ofNat 32 q.val))).toNat = b.val + q.val := by decide +kernel
  exact h b ⟨q, hq⟩

/-- A decoded weight tile. -/
theorem tW_apply (ws : IVec S512x128 32) (b : BitVec 32) (w : Vec Ideal S512x128 .fp8e4m3) (r : Fin 512) (c : Fin 128) :
    tW ws b w (ix2 r c) = w (ix2 r c) * Ideal.ofBits .f32 (IntOp.shli .vector
      (ws (ix2 r ⟨(tIdx b (ix2 r c)).toNat % 128, Nat.mod_lt _ (by omega)⟩)) 23#32) := by
  pointwise [tW]

/-- One step of the product. -/
theorem tStep_apply (g : Vec Ideal S384x256 .bf16) (w0 w1 : FVec Ideal S512x128 .bf16) (r : Fin 384) (c : Fin 512) :
    tStep g w0 w1 (ix2 r c) = ∑ x : Fin 128, g (ix2 r ⟨x.val, by omega⟩) * w0 (ix2 c x) + ∑ x : Fin 128, g (ix2 r ⟨128 + x.val, by omega⟩) * w1 (ix2 c x) := by
  pointwise [tStep, dot_S384x256_S512x256_S384x512_1_1_0_0_n_n]

/-- The finished product, as it is stored. -/
theorem tOut_apply (a : FVec Ideal S384x512 .f32) (z : Fin 1) (r : Fin 384) (c : Fin 512) : tOut a (ix3 z r c) = a (ix2 r c) := by
  pointwise [tOut]

/-- The scale codes, as they are stored. -/
theorem tScales_apply (e : Vec Ideal S176x384 .i32) (z : Fin 1) (r : Fin 176) (c : Fin 384) :
    tScales (F := Ideal) e (ix3 z r c) = BitVec.setWidth 8 (e (ix2 r c)) := by
  pointwise [tScales]

end Cert.KernelIdeal.Gen
-- ==== Proof.Expo.lean ====
/- The exponents: the kernel counts the powers of two that do not exceed a scaled maximum, the reference takes the
   floor of its logarithm. The two agree for every number from zero to a large bound. -/
module

public import proofs.«01_k».proof.Proof.KPoint
public import Idealize.ShloMosaic.Lib.IndicatorCount

@[expose] public section

noncomputable section

namespace Mx

open Idealize.ShloMosaic Cert.KernelIdeal.Gen

theorem ofBits_ieee (b : BitVec 32) : Ideal.ofBits .f32 b = Ideal.ieee 8 23 b := rfl

/-- A pattern without sign and fraction is a power of two. -/
theorem ieee_pow (b : BitVec 32) (n : ℕ) (h1 : 1 ≤ n) (h2 : n ≤ 254) (ha : (b.extractLsb' 31 1 == 1#1) = false)
    (hb : (b.extractLsb' 23 8).toNat = n) (hc : (b.extractLsb' 0 23).toNat = 0) :
    Ideal.ieee 8 23 b = (((2 : ℝ) ^ ((n : ℤ) - 127) : ℝ) : EReal) := by
  unfold Ideal.ieee
  dsimp only
  rw [ha, hb, hc, if_neg (by omega), if_neg (by omega)]
  congr 1
  have h : (8388608 : ℝ) = (2 : ℝ) ^ (23 : ℤ) := by norm_num
  norm_num
  rw [h, ← zpow_add₀ (by norm_num)]
  congr 1; ring

theorem ieee_zero (b : BitVec 32) (hb : (b.extractLsb' 23 8).toNat = 0) (hc : (b.extractLsb' 0 23).toNat = 0) :
    Ideal.ieee 8 23 b = 0 := by
  unfold Ideal.ieee
  dsimp only
  rw [hb, hc]
  simp

theorem ieee_top (b : BitVec 32) (ha : (b.extractLsb' 31 1 == 1#1) = false)
    (hb : (b.extractLsb' 23 8).toNat = 255) (hc : (b.extractLsb' 0 23).toNat = 0) : Ideal.ieee 8 23 b = ⊤ := by
  unfold Ideal.ieee
  dsimp only
  rw [ha, hb, hc]
  simp

theorem fields : ∀ k : Fin 256, ((IntOp.shli .vector (BitVec.ofNat 32 k.val) 23#32 : BitVec 32).extractLsb' 31 1 == 1#1) = false
      ∧ ((IntOp.shli .vector (BitVec.ofNat 32 k.val) 23#32 : BitVec 32).extractLsb' 23 8).toNat = k.val
      ∧ ((IntOp.shli .vector (BitVec.ofNat 32 k.val) 23#32 : BitVec 32).extractLsb' 0 23).toNat = 0 := by decide +kernel

/-- The float whose exponent field is `n` and whose fraction is zero is a power of two. -/
theorem ofBits_pow (n : ℕ) (h1 : 1 ≤ n) (h2 : n ≤ 254) :
    Ideal.ofBits .f32 (IntOp.shli .vector (BitVec.ofNat 32 n) 23#32) = (((2 : ℝ) ^ ((n : ℤ) - 127) : ℝ) : EReal) := by
  obtain ⟨ha, hb, hc⟩ := fields ⟨n, by omega⟩
  rw [ofBits_ieee]
  exact ieee_pow _ n h1 h2 ha hb hc

theorem ofBits_zero : Ideal.ofBits .f32 (IntOp.shli .vector 0#32 23#32) = 0 := by
  obtain ⟨ha, hb, hc⟩ := fields ⟨0, by omega⟩
  rw [ofBits_ieee]
  exact ieee_zero _ hb hc

theorem ofBits_top : Ideal.ofBits .f32 (IntOp.shli .vector 255#32 23#32) = ⊤ := by
  obtain ⟨ha, hb, hc⟩ := fields ⟨255, by omega⟩
  rw [ofBits_ieee]
  exact ieee_top _ ha hb hc

/-- Two to an integer, by the kernel's power function. -/
theorem exp2_int (z : ℤ) : Ideal.exp2 (((z : ℝ)) : EReal) = (((2 : ℝ) ^ z : ℝ) : EReal) := by
  show ((Real.rpow 2 (z : ℝ) : ℝ) : EReal) = _
  rw [show Real.rpow 2 (z : ℝ) = (2 : ℝ) ^ (z : ℝ) from rfl, Real.rpow_intCast]

theorem two_bits : Ideal.ofBits .f32 0x40000000#32 = ((2 : ℝ) : EReal) := by
  rw [ofBits_ieee, ieee_pow _ 128 (by norm_num) (by norm_num) (by decide) (by decide) (by decide)]; norm_num

theorem tiny_bits : Ideal.ofBits .f32 0x00800000#32 = (((2 : ℝ) ^ (-126 : ℤ) : ℝ) : EReal) := by
  rw [ofBits_ieee, ieee_pow _ 1 (by norm_num) (by norm_num) (by decide) (by decide) (by decide)]; norm_num

theorem top_bits : Ideal.ofBits .f32 0x7F800000#32 = ⊤ := by
  rw [ofBits_ieee, ieee_top _ (by decide) (by decide) (by decide)]

theorem zero_bits : Ideal.ofBits .f32 0x00000000#32 = 0 := by
  rw [ofBits_ieee, ieee_zero _ (by decide) (by decide)]

/-- The kernel's count, from where the powers of two stop being at most `y`. -/
theorem kcount_eq (y : ℝ) (N : ℕ) (hN : N ≤ 254) (h : ∀ k : ℕ, k < 254 → ((2 : ℝ) ^ ((k : ℤ) - 126) ≤ y ↔ k < N)) :
    kcount (y : EReal) = BitVec.ofNat 32 N := by
  unfold kcount
  rw [Idealize.ShloMosaic.IndicatorCount.fold_addi_setWidth_eq_card]
  congr 1
  have hk : ∀ k : Fin 255, IntOp.addi (BitVec.ofNat 32 k.val) 1#32 = BitVec.ofNat 32 (k.val + 1) := by decide +kernel
  have hs : (Finset.univ.filter fun x : Fin 255 => BitVec.ofBool (decide
      (Ideal.ofBits .f32 (IntOp.shli .vector (IntOp.addi (BitVec.ofNat 32 x.val) 1#32) 23#32) ≤ (y : EReal))) = 1#1)
      = Finset.Iio (⟨N, by omega⟩ : Fin 255) := by
    ext x
    have hb : ∀ b : Bool, BitVec.ofBool b = 1#1 ↔ b = true := by decide
    rw [Finset.mem_filter, Finset.mem_Iio, hb, decide_eq_true_iff, hk, Fin.lt_def]
    by_cases hx : x.val = 254
    · rw [hx, show (254 + 1) = 255 from rfl, ofBits_top]
      simp only [top_le_iff, EReal.coe_ne_top, and_false, false_iff]; omega
    · rw [ofBits_pow _ (by omega) (by omega), EReal.coe_le_coe_iff,
        show (((x.val + 1 : ℕ) : ℤ) - 127) = (x.val : ℤ) - 126 by push_cast; ring, h _ (by omega)]
      simp
  rw [hs, Fin.card_Iio]

/-- The exponent the reference gives a scaled largest value. -/
def rexp (q : EReal) : BitVec 32 :=
  Scalar.select (BitVec.ofBool (decide (q < Ideal.ofBits .f32 0x00800000#32))) 0#32
    (IntOp.addi (Ideal.fptosi 32 (Ideal.liftRound Int.floor (Ideal.div (Ideal.log q) (Ideal.log (Ideal.ofBits .f32 0x40000000#32))))) 1#32)

theorem rexp_log (y : ℝ) (h0 : 0 < y) (e : ℤ) (he : e = ⌊Real.log y / Real.log 2⌋) (h1 : -200 ≤ e) (h2 : e ≤ 200) :
    Ideal.fptosi 32 (Ideal.liftRound Int.floor (Ideal.div (Ideal.log (y : EReal)) (Ideal.log (Ideal.ofBits .f32 0x40000000#32)))) = BitVec.ofInt 32 e := by
  have hl : Real.log 2 ≠ 0 := (Real.log_pos (by norm_num)).ne'
  have hlog : ∀ r : ℝ, 0 < r → Ideal.log (r : EReal) = ((Real.log r : ℝ) : EReal) := fun r hr => by
    show (if r ≤ 0 then ⊥ else (Real.log r : EReal)) = _
    rw [if_neg (not_le.mpr hr)]
  have hfl : ∀ r : ℝ, Ideal.liftRound Int.floor (r : EReal) = (((⌊r⌋ : ℤ) : ℝ) : EReal) := fun r => rfl
  have hint : ∀ z : ℤ, -200 ≤ z → z ≤ 200 → Ideal.fptosi 32 (((z : ℤ) : ℝ) : EReal) = BitVec.ofInt 32 z := fun z ha hb => by
    show BitVec.ofInt 32 (max _ (min _ (if 0 ≤ (z : ℝ) then ⌊(z : ℝ)⌋ else ⌈(z : ℝ)⌉))) = _
    rw [Int.floor_intCast, Int.ceil_intCast, ite_self]
    congr 1
    norm_num
    omega
  have hd : Ideal.div ((Real.log y : ℝ) : EReal) ((Real.log 2 : ℝ) : EReal) = ((Real.log y / Real.log 2 : ℝ) : EReal) := by
    unfold Ideal.div
    rw [if_neg (by exact_mod_cast hl), ← EReal.coe_inv, ← EReal.coe_mul, div_eq_mul_inv]
  rw [two_bits, hlog y h0, hlog 2 (by norm_num), hd, hfl]
  rw [← he, hint e h1 h2]

/-- THE EXPONENTS AGREE: the kernel's word is `n`, the reference's `n - 127`. -/
theorem expo (y : ℝ) (h0 : 0 ≤ y) (h1 : y ≤ (2 : ℝ) ^ (119 : ℤ)) :
    ∃ n : ℕ, 2 ≤ n ∧ n ≤ 252 ∧ kexp (y : EReal) = BitVec.ofNat 32 n ∧ rexp (y : EReal) = BitVec.ofInt 32 ((n : ℤ) - 127) := by
  by_cases ht : y < (2 : ℝ) ^ (-126 : ℤ)
  · refine ⟨127, by norm_num, by norm_num, ?_, ?_⟩
    · unfold kexp
      rw [kcount_eq y 0 (by norm_num) fun k hk => ⟨fun hle => absurd (lt_of_le_of_lt hle ht) (not_lt.mpr
        (zpow_le_zpow_right₀ (by norm_num) (by omega))), fun hlt => absurd hlt (by omega)⟩]
      decide
    · unfold rexp
      rw [tiny_bits, decide_eq_true (by exact_mod_cast ht)]
      rfl
  · rw [not_lt] at ht
    have hp : 0 < y := lt_of_lt_of_le (by positivity) ht
    have hle : ∀ z : ℤ, (2 : ℝ) ^ z ≤ y ↔ z ≤ ⌊Real.log y / Real.log 2⌋ := fun z => by
      rw [Int.le_floor, le_div_iff₀ (Real.log_pos (by norm_num)), ← Real.log_zpow]
      exact (Real.log_le_log_iff (by positivity) hp).symm
    have he1 : -126 ≤ ⌊Real.log y / Real.log 2⌋ := (hle _).mp ht
    have he2 : ⌊Real.log y / Real.log 2⌋ ≤ 119 := by
      have := (hle (⌊Real.log y / Real.log 2⌋)).mpr le_rfl
      exact (zpow_le_zpow_iff_right₀ (by norm_num)).mp (this.trans h1)
    obtain ⟨N, hN⟩ : ∃ N : ℕ, (N : ℤ) = ⌊Real.log y / Real.log 2⌋ + 127 := ⟨(⌊Real.log y / Real.log 2⌋ + 127).toNat, by omega⟩
    refine ⟨N + 1, by omega, by omega, ?_, ?_⟩
    · unfold kexp
      rw [kcount_eq y N (by omega) fun k hk => by rw [hle]; omega]
      have hdec : ∀ k : Fin 255, 0 < k.val → Scalar.select (IntOp.andi (IntOp.cmpi .sgt (BitVec.ofNat 32 k.val) 0#32) (IntOp.cmpi .slt (BitVec.ofNat 32 k.val) 255#32))
        (IntOp.addi (BitVec.ofNat 32 k.val) 1#32) 127#32 = BitVec.ofNat 32 (k.val + 1) := by decide +kernel
      exact hdec ⟨N, by omega⟩ (by dsimp only; omega)
    · unfold rexp
      rw [tiny_bits, decide_eq_false (by rw [not_lt]; exact_mod_cast ht), rexp_log y hp _ rfl (by omega) (by omega)]
      show BitVec.ofInt 32 _ + 1#32 = _
      rw [show (1#32 : BitVec 32) = BitVec.ofInt 32 1 from rfl, ← BitVec.ofInt_add]
      congr 1
      omega

end Mx
-- ==== Proof.Spec.lean ====
/- What the program computes, as functions over plain indices: the gradient rotated back, its groups' exponents and
   codes, and the product with the decoded weight. Each is given in the kernel's spelling and in the reference's, and
   the two are shown equal for gradients of bounded size. -/
module

public import proofs.«01_k».proof.Proof.Expo

@[expose] public section

noncomputable section

namespace Mx

open Idealize.ShloMosaic Cert.KernelIdeal.Gen

/-- One head's gradient rotated back by the angles' cosines and sines. -/
def rot (x : Fin 128 → EReal) (co si : Fin 64 → EReal) (c : Fin 128) : EReal :=
  if h : c.val < 64 then x c * co ⟨c.val, h⟩ + x ⟨64 + c.val, by omega⟩ * si ⟨c.val, h⟩
  else x c * co ⟨c.val - 64, by omega⟩ - x ⟨c.val - 64, by omega⟩ * si ⟨c.val - 64, by omega⟩

/-- One token's gradient, head by head. -/
def gradH (dq : Fin 36 → Fin 128 → EReal) (dk dv : Fin 4 → Fin 128 → EReal) (co si : Fin 64 → EReal) (h : Fin 44) : Fin 128 → EReal :=
  if hq : h.val < 36 then rot (dq ⟨h.val, hq⟩) co si
  else if hk : h.val < 40 then rot (dk ⟨h.val - 36, by omega⟩) co si
  else dv ⟨h.val - 40, by omega⟩

/-- One token's gradient. -/
def grad (dq : Fin 36 → Fin 128 → EReal) (dk dv : Fin 4 → Fin 128 → EReal) (co si : Fin 64 → EReal) (k : Fin 5632) : EReal :=
  gradH dq dk dv co si ⟨k.val / 128, by omega⟩ ⟨k.val % 128, Nat.mod_lt _ (by omega)⟩

/-- A group's scaled largest absolute value. -/
def gmax (G : Fin 5632 → EReal) (j : Fin 176) : EReal :=
  (Finset.univ.fold max (Ideal.ofBits .f32 0xFF800000#32) fun x : Fin 32 => FloatOps.absf (F := Ideal) (φ := .f32) (G ⟨32 * j.val + x.val, by omega⟩))
    * Ideal.ofBits .f32 0x37924925#32

/-- The code at a feature, given the factor of its group. -/
def clip (x r : EReal) : EReal := min (Ideal.ofBits .f32 0x47600000#32) (max (Ideal.ofBits .f32 0xC7600000#32) (x * r))

/-- The group of a feature. -/
def grp (k : Fin 5632) : Fin 176 := ⟨k.val / 32, by omega⟩

/-- The kernel's code. -/
def kcode (G : Fin 5632 → EReal) (k : Fin 5632) : EReal :=
  clip (G k) (Ideal.ofBits .f32 (IntOp.shli .vector (IntOp.subi 254#32 (kexp (gmax G (grp k)))) 23#32))

/-- The kernel's decoded gradient. -/
def kdec (G : Fin 5632 → EReal) (k : Fin 5632) : EReal :=
  kcode G k * Ideal.ofBits .f32 (IntOp.shli .vector (kexp (gmax G (grp k))) 23#32)

/-- The kernel's scale code. -/
def kscale (G : Fin 5632 → EReal) (j : Fin 176) : BitVec 8 := BitVec.setWidth 8 (kexp (gmax G j))

/-- The kernel's decoded weight. -/
def kw (w : Fin 5632 → EReal) (ws : Fin 176 → BitVec 8) (k : Fin 5632) : EReal :=
  w k * Ideal.ofBits .f32 (IntOp.shli .vector (BitVec.setWidth 32 (ws (grp k))) 23#32)

/-- The kernel's product at a token and an output feature. -/
def kdx (G : Fin 5632 → EReal) (w : Fin 5632 → EReal) (ws : Fin 176 → BitVec 8) : EReal := ∑ k : Fin 5632, kdec G k * kw w ws k

/-- The reference's code. -/
def rcode (G : Fin 5632 → EReal) (k : Fin 5632) : EReal :=
  clip (G k) (Ideal.exp2 (((IntOp.subi 0#32 (rexp (gmax G (grp k)))).toInt : ℝ) : EReal))

/-- The reference's scale code. -/
def rscale (G : Fin 5632 → EReal) (j : Fin 176) : BitVec 8 := BitVec.setWidth 8 (IntOp.addi (rexp (gmax G j)) 127#32)

/-- A scale code decoded as the reference does. -/
def decE8 (s : BitVec 8) : EReal :=
  Scalar.select (IntOp.cmpi .eq (BitVec.setWidth 32 s) 0#32) (Ideal.ofBits .f32 0x00000000#32)
    (Scalar.select (IntOp.cmpi .eq (BitVec.setWidth 32 s) 255#32) (Ideal.ofBits .f32 0x7F800000#32)
      (Ideal.exp2 (((IntOp.subi (BitVec.setWidth 32 s) 127#32).toInt : ℝ) : EReal)))

/-- The reference's product at a token and an output feature. -/
def rdx (G : Fin 5632 → EReal) (w : Fin 5632 → EReal) (ws : Fin 176 → BitVec 8) : EReal :=
  ∑ k : Fin 5632, (rcode G k * decE8 (rscale G (grp k))) * (w k * decE8 (ws (grp k)))

/-- A scale code is decoded to the same number by both. -/
theorem decE8_eq (s : BitVec 8) : decE8 s = Ideal.ofBits .f32 (IntOp.shli .vector (BitVec.setWidth 32 s) 23#32) := by
  have hs : BitVec.setWidth 32 s = BitVec.ofNat 32 s.toNat := by
    apply BitVec.eq_of_toNat_eq; simp
  have hlt : s.toNat < 256 := s.isLt
  unfold decE8
  rw [hs]
  have hsel : ∀ n : Fin 256, (IntOp.cmpi .eq (BitVec.ofNat 32 n.val) 0#32 = 1 ↔ n.val = 0) ∧
      (IntOp.cmpi .eq (BitVec.ofNat 32 n.val) 255#32 = 1 ↔ n.val = 255) ∧
      (IntOp.subi (BitVec.ofNat 32 n.val) 127#32).toInt = (n.val : ℤ) - 127 := by decide +kernel
  obtain ⟨h0, h1, h2⟩ := hsel ⟨s.toNat, hlt⟩
  dsimp only at h0 h1 h2
  unfold Scalar.select
  by_cases e0 : s.toNat = 0
  · rw [if_pos (h0.mpr e0), e0, zero_bits]; exact ofBits_zero.symm
  · rw [if_neg (fun h => e0 (h0.mp h))]
    by_cases e1 : s.toNat = 255
    · rw [if_pos (h1.mpr e1), e1, top_bits]; exact ofBits_top.symm
    · rw [if_neg (fun h => e1 (h1.mp h)), h2, exp2_int, ofBits_pow _ (by omega) (by omega)]

/-- The scaling constant is a small real number. -/
theorem scale_bits : ∃ K : ℝ, Ideal.ofBits .f32 0x37924925#32 = (K : EReal) ∧ 0 ≤ K ∧ K ≤ (2 : ℝ) ^ (-10 : ℤ) := by
  refine ⟨(2 ^ 23 + 1198373 : ℕ) * (2 : ℝ) ^ ((111 : ℤ) - 127 - 23), ?_, by positivity, by norm_num⟩
  have ha : ((0x37924925#32 : BitVec 32).extractLsb' 31 1 == 1#1) = false := by decide
  have hb : ((0x37924925#32 : BitVec 32).extractLsb' 23 8).toNat = 111 := by decide
  have hc : ((0x37924925#32 : BitVec 32).extractLsb' 0 23).toNat = 1198373 := by decide
  rw [ofBits_ieee]
  unfold Ideal.ieee
  dsimp only
  rw [ha, hb, hc, if_neg (by omega), if_neg (by omega)]
  congr 1
  norm_num

theorem bot_bits : Ideal.ofBits .f32 0xFF800000#32 = ⊥ := by
  have ha : ((0xFF800000#32 : BitVec 32).extractLsb' 31 1 == 1#1) = true := by decide
  have hb : ((0xFF800000#32 : BitVec 32).extractLsb' 23 8).toNat = 255 := by decide
  have hc : ((0xFF800000#32 : BitVec 32).extractLsb' 0 23).toNat = 0 := by decide
  rw [ofBits_ieee]
  unfold Ideal.ieee
  dsimp only
  rw [ha, hb, hc]
  simp

theorem absf_def' (x : EReal) : FloatOps.absf (F := Ideal) (φ := .f32) x = max x (-x) := rfl

/-- A bounded gradient's scaled group maximum is a real number within the exponents' range. -/
theorem gmax_real (G : Fin 5632 → EReal) (hG : ∀ k, max (G k) (-(G k)) ≤ (((2 : ℝ) ^ (129 : ℤ) : ℝ) : EReal)) (j : Fin 176) :
    ∃ y : ℝ, gmax G j = (y : EReal) ∧ 0 ≤ y ∧ y ≤ (2 : ℝ) ^ (119 : ℤ) := by
  obtain ⟨K, hK, hK0, hK1⟩ := scale_bits
  unfold gmax
  rw [hK, bot_bits]
  simp only [absf_def']
  set a := Finset.univ.fold max (⊥ : EReal) fun x : Fin 32 => max (G ⟨32 * j.val + x.val, by omega⟩) (-(G ⟨32 * j.val + x.val, by omega⟩)) with ha
  have h1 : a ≤ (((2 : ℝ) ^ (129 : ℤ) : ℝ) : EReal) := (Finset.fold_max_le _).mpr ⟨bot_le, fun x _ => hG _⟩
  have h0 : (0 : EReal) ≤ a := (Finset.le_fold_max _).mpr (.inr ⟨0, Finset.mem_univ _, by
    rcases le_total (0 : EReal) (G ⟨32 * j.val + (0 : Fin 32).val, by omega⟩) with h | h
    · exact le_max_of_le_left h
    · exact le_max_of_le_right (by simpa using EReal.neg_le_neg_iff.mpr h)⟩)
  clear_value a
  have hnt : a ≠ ⊤ := fun h => by rw [h] at h1; exact absurd h1 (not_le.mpr (EReal.coe_lt_top _))
  have hnb : a ≠ ⊥ := fun h => by rw [h] at h0; exact absurd h0 (not_le.mpr (EReal.bot_lt_zero))
  lift a to ℝ using ⟨hnt, hnb⟩
  have h1' : a ≤ (2 : ℝ) ^ (129 : ℤ) := by exact_mod_cast h1
  have h0' : 0 ≤ a := by exact_mod_cast h0
  refine ⟨a * K, by rw [EReal.coe_mul], by positivity, ?_⟩
  calc a * K ≤ (2 : ℝ) ^ (129 : ℤ) * (2 : ℝ) ^ (-10 : ℤ) := mul_le_mul h1' hK1 hK0 (by positivity)
    _ = (2 : ℝ) ^ (119 : ℤ) := by rw [← zpow_add₀ (by norm_num)]; norm_num

section
variable (G : Fin 5632 → EReal) (hG : ∀ k, max (G k) (-(G k)) ≤ (((2 : ℝ) ^ (129 : ℤ) : ℝ) : EReal))
include hG

/-- The group's exponent: one number gives the kernel's word and the reference's. -/
theorem exps (j : Fin 176) : ∃ n : ℕ, 2 ≤ n ∧ n ≤ 252 ∧ kexp (gmax G j) = BitVec.ofNat 32 n ∧ rexp (gmax G j) = BitVec.ofInt 32 ((n : ℤ) - 127) := by
  obtain ⟨y, hy, h0, h1⟩ := gmax_real G hG j
  rw [hy]
  exact expo y h0 h1

theorem code_eq (k : Fin 5632) : kcode G k = rcode G k := by
  obtain ⟨n, h1, h2, hk, hr⟩ := exps G hG (grp k)
  unfold kcode rcode
  rw [hk, hr]
  congr 1
  have hd : ∀ n : Fin 255, IntOp.subi 254#32 (BitVec.ofNat 32 n.val) = BitVec.ofNat 32 (254 - n.val)
      ∧ (IntOp.subi 0#32 (BitVec.ofInt 32 ((n.val : ℤ) - 127))).toInt = 127 - (n.val : ℤ) := by decide +kernel
  obtain ⟨ha, hb⟩ := hd ⟨n, by omega⟩
  dsimp only at ha hb
  rw [ha, hb, exp2_int, ofBits_pow _ (by omega) (by omega)]
  congr 2
  omega

theorem scale_eq (j : Fin 176) : kscale G j = rscale G j := by
  obtain ⟨n, h1, h2, hk, hr⟩ := exps G hG j
  unfold kscale rscale
  rw [hk, hr]
  have hd : ∀ n : Fin 255, IntOp.addi (BitVec.ofInt 32 ((n.val : ℤ) - 127)) 127#32 = BitVec.ofNat 32 n.val := by decide +kernel
  exact congrArg _ (hd ⟨n, by omega⟩).symm

theorem dx_eq (w : Fin 5632 → EReal) (ws : Fin 176 → BitVec 8) : kdx G w ws = rdx G w ws := by
  unfold kdx rdx
  refine Finset.sum_congr rfl fun k _ => ?_
  rw [decE8_eq, decE8_eq]
  unfold kdec kw
  rw [code_eq G hG, ← scale_eq G hG]
  obtain ⟨n, h1, h2, hk, hr⟩ := exps G hG (grp k)
  unfold kscale
  rw [hk]
  have hd : ∀ n : Fin 256, BitVec.setWidth 32 (BitVec.setWidth 8 (BitVec.ofNat 32 n.val)) = BitVec.ofNat 32 n.val := by decide +kernel
  rw [hd ⟨n, by omega⟩]

end

/-- A rotated head of bounded gradients is bounded. -/
theorem rot_bound (x : Fin 128 → EReal) (co si : Fin 64 → EReal)
    (hx : ∀ c, max (x c) (-(x c)) ≤ (((2 : ℝ) ^ (128 : ℤ) : ℝ) : EReal))
    (hc : ∀ i, ∃ r : ℝ, co i = (r : EReal) ∧ |r| ≤ 1) (hs : ∀ i, ∃ r : ℝ, si i = (r : EReal) ∧ |r| ≤ 1) (c : Fin 128) :
    max (rot x co si c) (-(rot x co si c)) ≤ (((2 : ℝ) ^ (129 : ℤ) : ℝ) : EReal) := by
  have hr : ∀ c, ∃ r : ℝ, x c = (r : EReal) ∧ |r| ≤ (2 : ℝ) ^ (128 : ℤ) := fun c => by
    have h := hx c
    generalize x c = a at h
    have h1 := (le_max_left _ _).trans h
    have h2 := (le_max_right _ _).trans h
    have hnt : a ≠ ⊤ := fun e => by rw [e] at h1; exact absurd h1 (not_le.mpr (EReal.coe_lt_top _))
    have hnb : a ≠ ⊥ := fun e => by rw [e, EReal.neg_bot] at h2; exact absurd h2 (not_le.mpr (EReal.coe_lt_top _))
    lift a to ℝ using ⟨hnt, hnb⟩
    refine ⟨a, rfl, abs_le.mpr ⟨?_, by exact_mod_cast h1⟩⟩
    rw [← EReal.coe_neg, EReal.coe_le_coe_iff] at h2
    linarith
  have hp : (2 : ℝ) ^ (129 : ℤ) = (2 : ℝ) ^ (128 : ℤ) + (2 : ℝ) ^ (128 : ℤ) := by
    rw [show (129 : ℤ) = 128 + 1 by norm_num, zpow_add_one₀ (by norm_num)]; ring
  have key : ∀ a b p q : ℝ, |a| ≤ (2 : ℝ) ^ (128 : ℤ) → |b| ≤ (2 : ℝ) ^ (128 : ℤ) → |p| ≤ 1 → |q| ≤ 1 → |a * p| + |b * q| ≤ (2 : ℝ) ^ (129 : ℤ) := by
    intro a b p q ha hb hpp hqq
    rw [abs_mul, abs_mul, hp]
    have h1 : |a| * |p| ≤ (2 : ℝ) ^ (128 : ℤ) * 1 := mul_le_mul ha hpp (abs_nonneg _) (by positivity)
    have h2 : |b| * |q| ≤ (2 : ℝ) ^ (128 : ℤ) * 1 := mul_le_mul hb hqq (abs_nonneg _) (by positivity)
    linarith
  have fin : ∀ r : ℝ, |r| ≤ (2 : ℝ) ^ (129 : ℤ) → max (r : EReal) (-(r : EReal)) ≤ (((2 : ℝ) ^ (129 : ℤ) : ℝ) : EReal) := fun r h => by
    rw [← EReal.coe_neg]
    exact max_le (by exact_mod_cast (abs_le.mp h).2) (by rw [EReal.coe_le_coe_iff]; linarith [(abs_le.mp h).1])
  unfold rot
  split_ifs with h
  · obtain ⟨a, ha, ha'⟩ := hr c
    obtain ⟨b, hb, hb'⟩ := hr ⟨64 + c.val, by omega⟩
    obtain ⟨p, hp, hp'⟩ := hc ⟨c.val, h⟩
    obtain ⟨q, hq, hq'⟩ := hs ⟨c.val, h⟩
    rw [ha, hb, hp, hq, ← EReal.coe_mul, ← EReal.coe_mul, ← EReal.coe_add]
    exact fin _ ((abs_add_le _ _).trans (key a b p q ha' hb' hp' hq'))
  · obtain ⟨a, ha, ha'⟩ := hr c
    obtain ⟨b, hb, hb'⟩ := hr ⟨c.val - 64, by omega⟩
    obtain ⟨p, hp, hp'⟩ := hc ⟨c.val - 64, by omega⟩
    obtain ⟨q, hq, hq'⟩ := hs ⟨c.val - 64, by omega⟩
    rw [ha, hb, hp, hq, ← EReal.coe_mul, ← EReal.coe_mul, ← EReal.coe_sub]
    exact fin _ ((abs_sub _ _).trans (key a b p q ha' hb' hp' hq'))

/-- A token's gradient is bounded when the arguments are finite. -/
theorem grad_bound (dq : Fin 36 → Fin 128 → EReal) (dk dv : Fin 4 → Fin 128 → EReal) (co si : Fin 64 → EReal)
    (h1 : ∀ h c, max (dq h c) (-(dq h c)) ≤ (((2 : ℝ) ^ (128 : ℤ) : ℝ) : EReal))
    (h2 : ∀ h c, max (dk h c) (-(dk h c)) ≤ (((2 : ℝ) ^ (128 : ℤ) : ℝ) : EReal))
    (h3 : ∀ h c, max (dv h c) (-(dv h c)) ≤ (((2 : ℝ) ^ (128 : ℤ) : ℝ) : EReal))
    (hc : ∀ i, ∃ r : ℝ, co i = (r : EReal) ∧ |r| ≤ 1) (hs : ∀ i, ∃ r : ℝ, si i = (r : EReal) ∧ |r| ≤ 1) (k : Fin 5632) :
    max (grad dq dk dv co si k) (-(grad dq dk dv co si k)) ≤ (((2 : ℝ) ^ (129 : ℤ) : ℝ) : EReal) := by
  unfold grad gradH
  split_ifs with hq hk
  · exact rot_bound _ co si (h1 _) hc hs _
  · exact rot_bound _ co si (h2 _) hc hs _
  · exact (h3 _ _).trans (EReal.coe_le_coe_iff.mpr (zpow_le_zpow_right₀ (by norm_num) (by norm_num)))

end Mx
-- ==== Proof.KBlock.lean ====
/- What a run of the body leaves, read at an index, from the blocks it is given: the codes, the decoded gradient, the
   exponents, the scale codes and the product of one batch. -/
module

public import proofs.«01_k».proof.Proof.ListsDx
public import proofs.«01_k».proof.Proof.Spec
public import Idealize.ShloMosaic.Lib.WholeRead
public import Idealize.ShloMosaic.Lib.Pipeline.ValueKit.Tiles

@[expose] public section

noncomputable section

namespace Cert.KernelIdeal.Gen

open Idealize.ShloMosaic Idealize.SL.Sem

variable (c : Dev nD) (i : grid0.Coords)
  (arg2 : Memref sig .tc .vmem S1x36x384x128 .bf16) (harg2 : arg2.IsWhole) (arg3 : Memref sig .tc .vmem S1x4x384x128 .bf16) (harg3 : arg3.IsWhole)
  (arg4 : Memref sig .tc .vmem S1x4x384x128 .bf16) (harg4 : arg4.IsWhole) (arg5 : Memref sig .tc .vmem S5x384 .i32) (harg5 : arg5.IsWhole)
  (arg6 : Memref sig .tc .vmem S64x128 .f32) (harg6 : arg6.IsWhole) (arg7 : Memref sig .tc .vmem S512x5632 .fp8e4m3) (harg7 : arg7.IsWhole)
  (arg8 : Memref sig .tc .vmem S176x512 .i8) (harg8 : arg8.IsWhole)
  (x0 : Vec Ideal S1x36x384x128 .bf16) (x1 : Vec Ideal S1x4x384x128 .bf16) (x2 : Vec Ideal S1x4x384x128 .bf16) (x3 : Vec Ideal S5x384 .i32)
  (x4 : Vec Ideal S64x128 .f32) (x5 : Vec Ideal S512x5632 .fp8e4m3) (x6 : Vec Ideal S176x512 .i8)

/-- The angle of a token at a frequency, from the blocks. -/
def bAng (b : BitVec 32) (tok : Fin 384) (f : Fin 64) : EReal :=
  ((Finset.univ.fold IntOp.addi 0#32 fun x : Fin 5 =>
      Scalar.select (IntOp.cmpi .eq (BitVec.ofNat 32 x.val) b) (x3 (ix2 x tok)) 0#32).toInt : ℝ) * x4 (ix2 f ⟨tok.val % 128, Nat.mod_lt _ (by omega)⟩)

/-- A token's gradient, from the blocks. -/
def bG (b : BitVec 32) (tok : Fin 384) : Fin 5632 → EReal :=
  Mx.grad (fun h c => x0 (ix4 0 h tok c)) (fun h c => x1 (ix4 0 h tok c)) (fun h c => x2 (ix4 0 h tok c))
    (fun f => Ideal.cos (bAng x3 x4 b tok f)) (fun f => Ideal.sin (bAng x3 x4 b tok f))

/-- The token of a block. -/
def tokOf (tb : Fin 3) (l : Fin 128) : Fin 384 := ⟨128 * tb.val + l.val, by omega⟩

/-- The feature of a head. -/
def featOf (h : Fin 44) (f : Fin 128) : Fin 5632 := ⟨128 * h.val + f.val, by omega⟩

theorem pDq_apply (tb : Fin 3) (h : Fin 36) (l f : Fin 128) : pDq arg2 harg2 x0 tb h (ix4 0 0 l f) = x0 (ix4 0 h (tokOf tb l) f) := by
  unfold pDq
  rw [Memref.IsWhole.readAt_unread]
  exact View.ld_unit_apply_of x0 _ _ _ _ _ fun a => match a with
    | 0 => rfl | 1 => rfl | 2 => rfl | 3 => (Nat.zero_add _).symm

theorem pDkv_apply (tb : Fin 3) (h : Fin 4) (l f : Fin 128) : pDkv arg3 harg3 x1 tb h (ix4 0 0 l f) = x1 (ix4 0 h (tokOf tb l) f) := by
  unfold pDkv
  rw [Memref.IsWhole.readAt_unread]
  exact View.ld_unit_apply_of x1 _ _ _ _ _ fun a => match a with
    | 0 => rfl | 1 => rfl | 2 => rfl | 3 => (Nat.zero_add _).symm

theorem pPos_apply (tb : Fin 3) (x : Fin 5) (l : Fin 128) : pPos arg5 harg5 x3 tb (ix2 x l) = x3 (ix2 x (tokOf tb l)) := by
  unfold pPos
  rw [Memref.IsWhole.readAt_unread]
  exact View.ld_unit_apply_of x3 _ _ _ _ _ fun a => match a with
    | 0 => (Nat.zero_add _).symm | 1 => rfl

theorem pFreq_apply (f : Fin 64) (l : Fin 128) : pFreq arg6 harg6 x4 (ix2 f l) = x4 (ix2 f l) := by
  unfold pFreq
  rw [Memref.IsWhole.readAt_unread]
  exact View.ld_unit_apply_of x4 _ _ _ _ _ fun a => match a with
    | 0 => (Nat.zero_add _).symm | 1 => (Nat.zero_add _).symm

theorem tAng_block (b : BitVec 32) (tb : Fin 3) (f : Fin 64) (l : Fin 128) :
    tAng b (pPos arg5 harg5 x3 tb) (pFreq arg6 harg6 x4) (ix2 f l) = bAng x3 x4 b (tokOf tb l) f := by
  rw [tAng_apply]
  unfold bAng
  simp only [pPos_apply, pFreq_apply]
  congr 3
  apply Fin.ext
  show l.val = (128 * tb.val + l.val) % 128
  omega

/-- The two halves of one head, together, are the head's gradient. -/
theorem vG_block (tb : Fin 3) (h : Fin 44) (f l : Fin 128) :
    vG (pV1 i arg2 harg2 arg3 harg3 arg4 harg4 arg5 harg5 arg6 harg6 x0 x1 x2 x3 x4 tb h)
      (pV2 i arg2 harg2 arg3 harg3 arg4 harg4 arg5 harg5 arg6 harg6 x0 x1 x2 x3 x4 tb h) f l
      = bG x0 x1 x2 x3 x4 (BitVec.ofNat 32 (i 0).val) (tokOf tb l) (featOf h f) := by
  have e1 : (⟨(featOf h f).val / 128, by omega⟩ : Fin 44) = h := Fin.ext (by show (128 * h.val + f.val) / 128 = h.val; omega)
  have e2 : (⟨(featOf h f).val % 128, Nat.mod_lt _ (by omega)⟩ : Fin 128) = f := Fin.ext (by show (128 * h.val + f.val) % 128 = f.val; omega)
  unfold bG Mx.grad
  rw [e1, e2]
  unfold vG pV1 pV2 Mx.gradH Mx.rot
  by_cases hq : h.val < 36
  · simp only [dif_pos hq]
    by_cases hf : f.val < 64
    · simp only [dif_pos hf, tR1_apply, tAng_block, pDq_apply]
    · simp only [dif_neg hf, tR2_apply, tAng_block, pDq_apply]
      have e : (⟨64 + (f.val - 64), by omega⟩ : Fin 128) = f := Fin.ext (by show 64 + (f.val - 64) = f.val; omega)
      rw [e]
  · simp only [dif_neg hq]
    by_cases hk : h.val < 40
    · simp only [dif_pos hk]
      by_cases hf : f.val < 64
      · simp only [dif_pos hf, tR1_apply, tAng_block, pDkv_apply]
      · simp only [dif_neg hf, tR2_apply, tAng_block, pDkv_apply]
        have e : (⟨64 + (f.val - 64), by omega⟩ : Fin 128) = f := Fin.ext (by show 64 + (f.val - 64) = f.val; omega)
        rw [e]
    · simp only [dif_neg hk]
      by_cases hf : f.val < 64
      · simp only [dif_pos hf, tLo_apply, pDkv_apply]
      · simp only [dif_neg hf, tHi_apply, pDkv_apply]
        have e : (⟨64 + (f.val - 64), by omega⟩ : Fin 128) = f := Fin.ext (by show 64 + (f.val - 64) = f.val; omega)
        rw [e]

/-- One head's exponents are its groups'. -/
theorem exp_block (tb : Fin 3) (h : Fin 44) (q : Fin 4) (l : Fin 128) :
    tExp (tMax (pV1 i arg2 harg2 arg3 harg3 arg4 harg4 arg5 harg5 arg6 harg6 x0 x1 x2 x3 x4 tb h)
      (pV2 i arg2 harg2 arg3 harg3 arg4 harg4 arg5 harg5 arg6 harg6 x0 x1 x2 x3 x4 tb h)) (ix2 q l)
      = kexp (Mx.gmax (bG x0 x1 x2 x3 x4 (BitVec.ofNat 32 (i 0).val) (tokOf tb l)) ⟨4 * h.val + q.val, by omega⟩) := by
  rw [tExp_apply, tMax_apply]
  simp only [vG_block]
  unfold Mx.gmax
  congr 3
  funext x
  congr 2
  apply Fin.ext
  show 128 * h.val + (32 * q.val + x.val) = 32 * (4 * h.val + q.val) + x.val
  ring

theorem grp_feat (h : Fin 44) (f : Fin 128) : (⟨4 * h.val + f.val / 32, by omega⟩ : Fin 176) = Mx.grp (featOf h f) :=
  Fin.ext (by show 4 * h.val + f.val / 32 = (128 * h.val + f.val) / 32; omega)

/-- One head's codes are the kernel's codes of its features. -/
theorem code_block (tb : Fin 3) (h : Fin 44) (z : Fin 1) (l f : Fin 128) :
    tCodes (pV1 i arg2 harg2 arg3 harg3 arg4 harg4 arg5 harg5 arg6 harg6 x0 x1 x2 x3 x4 tb h)
      (pV2 i arg2 harg2 arg3 harg3 arg4 harg4 arg5 harg5 arg6 harg6 x0 x1 x2 x3 x4 tb h) (ix3 z l f)
      = Mx.kcode (bG x0 x1 x2 x3 x4 (BitVec.ofNat 32 (i 0).val) (tokOf tb l)) (featOf h f) := by
  rw [tCodes_apply, vG_block, exp_block]
  unfold Mx.kcode Mx.clip
  rw [← grp_feat]

/-- One head's decoded gradient. -/
theorem dec_block (tb : Fin 3) (h : Fin 44) (l f : Fin 128) :
    tG (pV1 i arg2 harg2 arg3 harg3 arg4 harg4 arg5 harg5 arg6 harg6 x0 x1 x2 x3 x4 tb h)
      (pV2 i arg2 harg2 arg3 harg3 arg4 harg4 arg5 harg5 arg6 harg6 x0 x1 x2 x3 x4 tb h) (ix2 l f)
      = Mx.kdec (bG x0 x1 x2 x3 x4 (BitVec.ofNat 32 (i 0).val) (tokOf tb l)) (featOf h f) := by
  rw [tG_apply, vG_block, exp_block]
  unfold Mx.kdec Mx.kcode Mx.clip
  rw [← grp_feat]

/-- The store from the last of a block and a head. -/
theorem store_of (tb : Fin 3) (h : Fin 44) : ∃ k : Fin 132, tbOf k = tb ∧ hdOf k = h :=
  ⟨⟨131 - (44 * tb.val + h.val), by omega⟩, Fin.ext (by show (131 - (131 - (44 * tb.val + h.val))) / 44 = tb.val; omega),
    Fin.ext (by show (131 - (131 - (44 * tb.val + h.val))) % 44 = h.val; omega)⟩

end Cert.KernelIdeal.Gen
-- ==== Proof.KBlock2.lean ====
/- What a run of the body leaves, read at an index, from the blocks it is given: the codes, the decoded gradient, the
   exponents, the scale codes and the product of one batch. -/
module

public import proofs.«01_k».proof.Proof.KBlock

@[expose] public section

noncomputable section

namespace Cert.KernelIdeal.Gen

open Idealize.ShloMosaic Idealize.SL.Sem

variable (c : Dev nD) (i : grid0.Coords)
  (arg2 : Memref sig .tc .vmem S1x36x384x128 .bf16) (harg2 : arg2.IsWhole) (arg3 : Memref sig .tc .vmem S1x4x384x128 .bf16) (harg3 : arg3.IsWhole)
  (arg4 : Memref sig .tc .vmem S1x4x384x128 .bf16) (harg4 : arg4.IsWhole) (arg5 : Memref sig .tc .vmem S5x384 .i32) (harg5 : arg5.IsWhole)
  (arg6 : Memref sig .tc .vmem S64x128 .f32) (harg6 : arg6.IsWhole) (arg7 : Memref sig .tc .vmem S512x5632 .fp8e4m3) (harg7 : arg7.IsWhole)
  (arg8 : Memref sig .tc .vmem S176x512 .i8) (harg8 : arg8.IsWhole)
  (x0 : Vec Ideal S1x36x384x128 .bf16) (x1 : Vec Ideal S1x4x384x128 .bf16) (x2 : Vec Ideal S1x4x384x128 .bf16) (x3 : Vec Ideal S5x384 .i32)
  (x4 : Vec Ideal S64x128 .f32) (x5 : Vec Ideal S512x5632 .fp8e4m3) (x6 : Vec Ideal S176x512 .i8)

theorem code_idx (tb : Fin 3) (h : Fin 44) (x : S1x128x128.Idx) :
    tCodes (pV1 i arg2 harg2 arg3 harg3 arg4 harg4 arg5 harg5 arg6 harg6 x0 x1 x2 x3 x4 tb h) (pV2 i arg2 harg2 arg3 harg3 arg4 harg4 arg5 harg5 arg6 harg6 x0 x1 x2 x3 x4 tb h) x
      = Mx.kcode (bG x0 x1 x2 x3 x4 (BitVec.ofNat 32 (i 0).val) (tokOf tb (x 1))) (featOf h (x 2)) := by
  rw [eq_ix3 x]
  exact code_block i arg2 harg2 arg3 harg3 arg4 harg4 arg5 harg5 arg6 harg6 x0 x1 x2 x3 x4 tb h (x 0) (x 1) (x 2)

theorem dec_idx (tb : Fin 3) (h : Fin 44) (x : S128x128.Idx) :
    tG (pV1 i arg2 harg2 arg3 harg3 arg4 harg4 arg5 harg5 arg6 harg6 x0 x1 x2 x3 x4 tb h) (pV2 i arg2 harg2 arg3 harg3 arg4 harg4 arg5 harg5 arg6 harg6 x0 x1 x2 x3 x4 tb h) x
      = Mx.kdec (bG x0 x1 x2 x3 x4 (BitVec.ofNat 32 (i 0).val) (tokOf tb (x 0))) (featOf h (x 1)) := by
  rw [eq_ix2 x]
  exact dec_block i arg2 harg2 arg3 harg3 arg4 harg4 arg5 harg5 arg6 harg6 x0 x1 x2 x3 x4 tb h (x 0) (x 1)

theorem e_idx (tb : Fin 3) (h : Fin 44) (x : S4x128.Idx) :
    tE (pV1 i arg2 harg2 arg3 harg3 arg4 harg4 arg5 harg5 arg6 harg6 x0 x1 x2 x3 x4 tb h) (pV2 i arg2 harg2 arg3 harg3 arg4 harg4 arg5 harg5 arg6 harg6 x0 x1 x2 x3 x4 tb h) x
      = kexp (Mx.gmax (bG x0 x1 x2 x3 x4 (BitVec.ofNat 32 (i 0).val) (tokOf tb (x 1))) ⟨4 * h.val + (x 0).val, by have : (x 0).val < 4 := (x 0).isLt; omega⟩) := by
  rw [eq_ix2 x]
  exact (tE_apply _ _ (x 0) (x 1)).trans <| exp_block i arg2 harg2 arg3 harg3 arg4 harg4 arg5 harg5 arg6 harg6 x0 x1 x2 x3 x4 tb h (x 0) (x 1)

/-- The codes of the batch. -/
theorem codes_apply (z : Fin 1) (t : Fin 384) (k : Fin 5632) :
    View.canon (fCodes i arg2 harg2 arg3 harg3 arg4 harg4 arg5 harg5 arg6 harg6 x0 x1 x2 x3 x4) (ix3 z t k)
      = Mx.kcode (bG x0 x1 x2 x3 x4 (BitVec.ofNat 32 (i 0).val) t) k := by
  refine View.canon_ofFn_eq_of_forall (Val := Elt Ideal) (e := .fp8e5m2) (fun k : Fin 132 => rCodes (tbOf k) (hdOf k))
    (fun k => tCodes (F := Ideal) (pV1 i arg2 harg2 arg3 harg3 arg4 harg4 arg5 harg5 arg6 harg6 x0 x1 x2 x3 x4 (tbOf k) (hdOf k)) (pV2 i arg2 harg2 arg3 harg3 arg4 harg4 arg5 harg5 arg6 harg6 x0 x1 x2 x3 x4 (tbOf k) (hdOf k))) _ _ ?_ ?_
  · obtain ⟨n, h1, h2⟩ := store_of ⟨t.val / 128, by omega⟩ ⟨k.val / 128, by omega⟩
    refine ⟨n, Rect.mem_set_unit.mpr fun a => ?_⟩
    rw [h1, h2]
    match a with
    | 0 => exact ⟨Nat.zero_le _, z.isLt⟩
    | 1 => show 128 * (t.val / 128) ≤ t.val ∧ t.val < 128 * (t.val / 128) + 128; omega
    | 2 => show 128 * (k.val / 128) ≤ k.val ∧ k.val < 128 * (k.val / 128) + 128; omega
  · intro n x hx
    have e1 : 128 * (tbOf n).val + 1 * (x 1).val = t.val := congrArg (fun y : S1x384x5632.Idx => (y 1).val) hx
    have e2 : 128 * (hdOf n).val + 1 * (x 2).val = k.val := congrArg (fun y : S1x384x5632.Idx => (y 2).val) hx
    rw [one_mul] at e1 e2
    refine (code_idx i arg2 harg2 arg3 harg3 arg4 harg4 arg5 harg5 arg6 harg6 x0 x1 x2 x3 x4 (tbOf n) (hdOf n) x).trans ?_
    rw [show tokOf (tbOf n) (x 1) = t from Fin.ext e1, show featOf (hdOf n) (x 2) = k from Fin.ext e2]

/-- The decoded gradient of the batch. -/
theorem g_apply (t : Fin 384) (k : Fin 5632) :
    View.canon (fG i arg2 harg2 arg3 harg3 arg4 harg4 arg5 harg5 arg6 harg6 x0 x1 x2 x3 x4) (ix2 t k)
      = Mx.kdec (bG x0 x1 x2 x3 x4 (BitVec.ofNat 32 (i 0).val) t) k := by
  refine View.canon_ofFn_eq_of_forall (Val := Elt Ideal) (e := .bf16) (fun k : Fin 132 => rG (tbOf k) (hdOf k))
    (fun k => tG (F := Ideal) (pV1 i arg2 harg2 arg3 harg3 arg4 harg4 arg5 harg5 arg6 harg6 x0 x1 x2 x3 x4 (tbOf k) (hdOf k)) (pV2 i arg2 harg2 arg3 harg3 arg4 harg4 arg5 harg5 arg6 harg6 x0 x1 x2 x3 x4 (tbOf k) (hdOf k))) _ _ ?_ ?_
  · obtain ⟨n, h1, h2⟩ := store_of ⟨t.val / 128, by omega⟩ ⟨k.val / 128, by omega⟩
    refine ⟨n, Rect.mem_set_unit.mpr fun a => ?_⟩
    rw [h1, h2]
    match a with
    | 0 => show 128 * (t.val / 128) ≤ t.val ∧ t.val < 128 * (t.val / 128) + 128; omega
    | 1 => show 128 * (k.val / 128) ≤ k.val ∧ k.val < 128 * (k.val / 128) + 128; omega
  · intro n x hx
    have e1 : 128 * (tbOf n).val + 1 * (x 0).val = t.val := congrArg (fun y : S384x5632.Idx => (y 0).val) hx
    have e2 : 128 * (hdOf n).val + 1 * (x 1).val = k.val := congrArg (fun y : S384x5632.Idx => (y 1).val) hx
    rw [one_mul] at e1 e2
    refine (dec_idx i arg2 harg2 arg3 harg3 arg4 harg4 arg5 harg5 arg6 harg6 x0 x1 x2 x3 x4 (tbOf n) (hdOf n) x).trans ?_
    rw [show tokOf (tbOf n) (x 0) = t from Fin.ext e1, show featOf (hdOf n) (x 1) = k from Fin.ext e2]

/-- The exponents of the batch. -/
theorem e_apply (j : Fin 176) (t : Fin 384) :
    View.canon (fE i arg2 harg2 arg3 harg3 arg4 harg4 arg5 harg5 arg6 harg6 x0 x1 x2 x3 x4) (ix2 j t)
      = kexp (Mx.gmax (bG x0 x1 x2 x3 x4 (BitVec.ofNat 32 (i 0).val) t) j) := by
  refine View.canon_ofFn_eq_of_forall (Val := Elt Ideal) (e := .i32) (fun k : Fin 132 => rE (tbOf k) (hdOf k))
    (fun k => tE (F := Ideal) (pV1 i arg2 harg2 arg3 harg3 arg4 harg4 arg5 harg5 arg6 harg6 x0 x1 x2 x3 x4 (tbOf k) (hdOf k)) (pV2 i arg2 harg2 arg3 harg3 arg4 harg4 arg5 harg5 arg6 harg6 x0 x1 x2 x3 x4 (tbOf k) (hdOf k))) _ _ ?_ ?_
  · obtain ⟨n, h1, h2⟩ := store_of ⟨t.val / 128, by omega⟩ ⟨j.val / 4, by omega⟩
    refine ⟨n, Rect.mem_set_unit.mpr fun a => ?_⟩
    rw [h1, h2]
    match a with
    | 0 => show 4 * (j.val / 4) ≤ j.val ∧ j.val < 4 * (j.val / 4) + 4; omega
    | 1 => show 128 * (t.val / 128) ≤ t.val ∧ t.val < 128 * (t.val / 128) + 128; omega
  · intro n x hx
    have e1 : 4 * (hdOf n).val + 1 * (x 0).val = j.val := congrArg (fun y : S176x384.Idx => (y 0).val) hx
    have e2 : 128 * (tbOf n).val + 1 * (x 1).val = t.val := congrArg (fun y : S176x384.Idx => (y 1).val) hx
    rw [one_mul] at e1 e2
    refine (e_idx i arg2 harg2 arg3 harg3 arg4 harg4 arg5 harg5 arg6 harg6 x0 x1 x2 x3 x4 (tbOf n) (hdOf n) x).trans ?_
    rw [show tokOf (tbOf n) (x 1) = t from Fin.ext e2]
    congr 2
    exact Fin.ext e1

/-- The scale codes of the batch. -/
theorem scales_apply (v : View sig .tc .vmem S176x384 .i32) (z : Fin 1) (j : Fin 176) (t : Fin 384) :
    View.canon [(⟨Rect.unit (s := S1x176x384) ![0, 0, 0] S1x176x384.size inb_S1x176x384_S1x176x384_0_0_0,
      tScales (F := Ideal) (v.readCov (fE i arg2 harg2 arg3 harg3 arg4 harg4 arg5 harg5 arg6 harg6 x0 x1 x2 x3 x4)
        (Rect.unit (s := S176x384) ![0, 0] S176x384.size inb_S176x384_S176x384_0_0).toLoadRect)⟩ : View.Piece (Elt Ideal) S1x176x384 .i8)] (ix3 z j t)
      = Mx.kscale (bG x0 x1 x2 x3 x4 (BitVec.ofNat 32 (i 0).val) t) j := by
  rw [View.canon_unit_zero (by decide), tScales_apply, View.readCov_eq_canon']
  unfold Mx.kscale
  rw [← e_apply i arg2 harg2 arg3 harg3 arg4 harg4 arg5 harg5 arg6 harg6 x0 x1 x2 x3 x4]
  congr 1
  exact View.ld_unit_apply_of (View.canon (fE i arg2 harg2 arg3 harg3 arg4 harg4 arg5 harg5 arg6 harg6 x0 x1 x2 x3 x4)) _ _ _ _ _ fun a => match a with
    | 0 => (Nat.zero_add _).symm | 1 => (Nat.zero_add _).symm

/-- The stores of the codes cover the block. -/
theorem codes_cover (y : S1x384x5632.Idx) :
    ∃ p ∈ fCodes (F := Ideal) i arg2 harg2 arg3 harg3 arg4 harg4 arg5 harg5 arg6 harg6 x0 x1 x2 x3 x4, y ∈ p.1.set := by
  have h1 : (y 1).val < 384 := (y 1).isLt
  have h2 : (y 2).val < 5632 := (y 2).isLt
  obtain ⟨n, e1, e2⟩ := store_of ⟨(y 1).val / 128, by omega⟩ ⟨(y 2).val / 128, by omega⟩
  refine ⟨_, List.mem_ofFn.mpr ⟨n, rfl⟩, ?_⟩
  show y ∈ (rCodes (tbOf n) (hdOf n)).set
  refine Rect.mem_set_unit.mpr fun a => ?_
  rw [e1, e2]
  match a with
  | 0 => exact ⟨Nat.zero_le _, (y 0).isLt⟩
  | 1 => show 128 * ((y 1).val / 128) ≤ (y 1).val ∧ (y 1).val < 128 * ((y 1).val / 128) + 128; omega
  | 2 => show 128 * ((y 2).val / 128) ≤ (y 2).val ∧ (y 2).val < 128 * ((y 2).val / 128) + 128; omega

/-- The stores of the decoded gradient cover the scratch. -/
theorem g_cover (y : S384x5632.Idx) :
    ∃ p ∈ fG (F := Ideal) i arg2 harg2 arg3 harg3 arg4 harg4 arg5 harg5 arg6 harg6 x0 x1 x2 x3 x4, y ∈ p.1.set := by
  have h1 : (y 0).val < 384 := (y 0).isLt
  have h2 : (y 1).val < 5632 := (y 1).isLt
  obtain ⟨n, e1, e2⟩ := store_of ⟨(y 0).val / 128, by omega⟩ ⟨(y 1).val / 128, by omega⟩
  refine ⟨_, List.mem_ofFn.mpr ⟨n, rfl⟩, ?_⟩
  show y ∈ (rG (tbOf n) (hdOf n)).set
  refine Rect.mem_set_unit.mpr fun a => ?_
  rw [e1, e2]
  match a with
  | 0 => show 128 * ((y 0).val / 128) ≤ (y 0).val ∧ (y 0).val < 128 * ((y 0).val / 128) + 128; omega
  | 1 => show 128 * ((y 1).val / 128) ≤ (y 1).val ∧ (y 1).val < 128 * ((y 1).val / 128) + 128; omega

end Cert.KernelIdeal.Gen
-- ==== Proof.KDx.lean ====
/- The product of one batch with one block of the weights, read at an index. -/
module

public import proofs.«01_k».proof.Proof.KBlock
public import Idealize.ShloMosaic.Lib.Pointwise.Sums

@[expose] public section

noncomputable section

namespace Cert.KernelIdeal.Gen

open Idealize.ShloMosaic Idealize.SL.Sem

variable (arg7 : Memref sig .tc .vmem S512x5632 .fp8e4m3) (harg7 : arg7.IsWhole)
  (arg8 : Memref sig .tc .vmem S176x512 .i8) (harg8 : arg8.IsWhole)
  (x5 : Vec Ideal S512x5632 .fp8e4m3) (x6 : Vec Ideal S176x512 .i8)

theorem ws_read : View.readAt (Elt Ideal) arg8.view
    (Rect.unit (s := S176x512) ![0, 0] S176x512.size inb_S176x512_S176x512_0_0).toLoadRect (harg8.unread x6) = x6 := by
  funext x
  rw [Memref.IsWhole.readAt_unread]
  exact View.ld_unit_apply_of x6 _ _ _ _ _ fun a => match a with
    | 0 => (Nat.zero_add _).symm | 1 => (Nat.zero_add _).symm

/-- One head's slice of the decoded weights. -/
theorem pW_apply (kt : Fin 44) (r : Fin 512) (c : Fin 128) :
    pW arg7 harg7 arg8 harg8 x5 x6 kt (ix2 r c) = Mx.kw (fun k => x5 (ix2 r k)) (fun j => x6 (ix2 j r)) (featOf kt c) := by
  unfold pW
  rw [ws_read, tW_apply]
  have e : (⟨(tIdx (BitVec.ofNat 32 (4 * (kt.val % 32))) (ix2 r c)).toNat % 128, Nat.mod_lt _ (by omega)⟩ : Fin 128)
      = ⟨4 * (kt.val % 32) + c.val / 32, by omega⟩ := by
    apply Fin.ext
    show (tIdx (BitVec.ofNat 32 (4 * (kt.val % 32))) (ix2 r c)).toNat % 128 = 4 * (kt.val % 32) + c.val / 32
    have h := tIdx_apply ⟨4 * (kt.val % 32), by omega⟩ r c
    rw [h]
    show (4 * (kt.val % 32) + c.val / 32) % 128 = _
    omega
  rw [e]
  unfold Mx.kw
  have hw : View.readAt (Elt Ideal) arg7.view (Rect.unit (s := S512x5632) ![0, 128 * kt.val] S512x128.size (fun a => by
      match a with | 0 => show 0 + 512 ≤ 512; omega | 1 => show 128 * kt.val + 128 ≤ 5632; omega)).toLoadRect (harg7.unread x5) (ix2 r c)
      = x5 (ix2 r (featOf kt c)) := by
    rw [Memref.IsWhole.readAt_unread]
    exact View.ld_unit_apply_of x5 _ _ _ _ _ fun a => match a with
      | 0 => (Nat.zero_add _).symm | 1 => rfl
  rw [hw]
  congr 3
  by_cases hk : kt.val < 32
  · rw [if_pos hk, tWs0_apply]
    congr 3
    apply Fin.ext
    show 4 * (kt.val % 32) + c.val / 32 = (128 * kt.val + c.val) / 32
    omega
  · rw [if_neg hk, tWs1_apply, dif_pos (show 128 + (4 * (kt.val % 32) + c.val / 32) < 176 by omega)]
    congr 3
    apply Fin.ext
    show 128 + (4 * (kt.val % 32) + c.val / 32) = (128 * kt.val + c.val) / 32
    omega

theorem foldl_addf (y : S384x512.Idx) : ∀ (n : ℕ) (f : Fin n → FVec Ideal S384x512 .f32) (a : FVec Ideal S384x512 .f32),
    (List.ofFn f).foldl addf a y = a y + ∑ k, f k y
  | 0, f, a => by simp
  | n + 1, f, a => by
    rw [List.ofFn_succ, List.foldl_cons, foldl_addf y n, Fin.sum_univ_succ, ← add_assoc]
    rfl

/-- The product at a token and an output feature, from what the scratch holds. -/
theorem pDx_apply (gs : Fin 22 → Vec Ideal S384x256 .bf16) (D : Fin 384 → Fin 5632 → EReal)
    (hg : ∀ (k : Fin 22) (t : Fin 384) (c : Fin 256), gs k (ix2 t c) = D t ⟨256 * k.val + c.val, by omega⟩)
    (z : Fin 1) (t : Fin 384) (r : Fin 512) :
    pDx arg7 harg7 arg8 harg8 x5 x6 gs (ix3 z t r)
      = ∑ k, D t k * Mx.kw (fun k => x5 (ix2 r k)) (fun j => x6 (ix2 j r)) k := by
  unfold pDx
  rw [tOut_apply, foldl_addf, ← Fin.sum_univ_succ (fun k => pStep arg7 harg7 arg8 harg8 x5 x6 gs k (ix2 t r)),
    Fin.sum_univ_tiles 22 256 rfl]
  refine Finset.sum_congr rfl fun k _ => ?_
  unfold pStep
  rw [tStep_apply, Fin.sum_univ_two_halves 128 128 rfl]
  congr 1
  · refine Finset.sum_congr rfl fun x _ => ?_
    rw [hg, pW_apply]
    rw [show (⟨k.val * 256 + x.val, by omega⟩ : Fin 5632) = featOf ⟨2 * k.val, by omega⟩ x from
      Fin.ext (by show k.val * 256 + x.val = 128 * (2 * k.val) + x.val; ring)]
    congr 2
    exact Fin.ext (by show 256 * k.val + x.val = 128 * (2 * k.val) + x.val; ring)
  · refine Finset.sum_congr rfl fun x _ => ?_
    rw [hg, pW_apply]
    rw [show (⟨k.val * 256 + (128 + x.val), by omega⟩ : Fin 5632) = featOf ⟨2 * k.val + 1, by omega⟩ x from
      Fin.ext (by show k.val * 256 + (128 + x.val) = 128 * (2 * k.val + 1) + x.val; ring)]
    congr 2
    exact Fin.ext (by show 256 * k.val + (128 + x.val) = 128 * (2 * k.val + 1) + x.val; ring)

end Cert.KernelIdeal.Gen
-- ==== Proof.KDat.lean ====
/- The run of the whole program at the extended reals: what every point of the grid leaves in the three outputs, and the
   frame with it. -/
module

public import proofs.«01_k».proof.Proof.KBlock2
public import proofs.«01_k».proof.Proof.KDx
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The first point of a point's batch. -/
def b0 (t : Fin cfg0.N) : Fin cfg0.N := ⟨t.val - t.val % 9, lt_of_le_of_lt (Nat.sub_le _ _) t.isLt⟩

/-- The point before. -/
def prv (t : Fin cfg0.N) : Fin cfg0.N := ⟨t.val - 1, lt_of_le_of_lt (Nat.sub_le _ _) t.isLt⟩

theorem b0_of_first (t : Fin cfg0.N) (h : t.val % 9 = 0) : b0 t = t := Fin.ext (by show t.val - t.val % 9 = t.val; omega)

theorem b0_prv (t : Fin cfg0.N) (h : ¬ t.val % 9 = 0) : b0 (prv t) = b0 t :=
  Fin.ext (by show (t.val - 1) - (t.val - 1) % 9 = t.val - t.val % 9; omega)

/-- A token's gradient in the batch of a point. -/
def gAt (c : Dev nD) (t : Fin cfg0.N) (tok : Fin 384) : Fin 5632 → EReal :=
  bG (iblk m c 0 (b0 t)) (iblk m c 1 (b0 t)) (iblk m c 2 (b0 t)) (iblk m c 3 (b0 t)) (iblk m c 4 (b0 t)) (BitVec.ofNat 32 (grid0.coords (b0 t) 0).val) tok

/-- The product's block at a point. -/
def dxAt (c : Dev nD) (t : Fin cfg0.N) : Vec Ideal S1x384x512 .bf16 := fun y =>
  Mx.kdx (gAt m c t (y 1)) (fun k => (iblk m c 5 t : Vec Ideal S512x5632 .fp8e4m3) (ix2 (y 2) k)) (fun j => (iblk m c 6 t : Vec Ideal S176x512 .i8) (ix2 j (y 2)))

/-- The codes' block at a point. -/
def codesAt (c : Dev nD) (t : Fin cfg0.N) : Vec Ideal S1x384x5632 .fp8e5m2 := fun y => Mx.kcode (gAt m c t (y 1)) (y 2)

/-- The scale codes' block at a point. -/
def scalesAt (c : Dev nD) (t : Fin cfg0.N) : Vec Ideal S1x176x384 .i8 := fun y => Mx.kscale (gAt m c t (y 2)) (y 1)

/-- What the scratch holds inside a point's batch. -/
def scrAt (c : Dev nD) (t : Fin cfg0.N) : Vec Ideal S384x5632 .bf16 := fun y => Mx.kdec (gAt m c t (y 0)) (y 1)

theorem gAt_prv (c : Dev nD) (t : Fin cfg0.N) (h : ¬ t.val % 9 = 0) : gAt m c (prv t) = gAt m c t := by
  funext tok; unfold gAt; rw [b0_prv t h]

theorem codesAt_prv (c : Dev nD) (t : Fin cfg0.N) (h : ¬ t.val % 9 = 0) : codesAt m c (prv t) = codesAt m c t := by
  unfold codesAt; rw [gAt_prv m c t h]

theorem scalesAt_prv (c : Dev nD) (t : Fin cfg0.N) (h : ¬ t.val % 9 = 0) : scalesAt m c (prv t) = scalesAt m c t := by
  unfold scalesAt; rw [gAt_prv m c t h]

theorem scrAt_prv (c : Dev nD) (t : Fin cfg0.N) (h : ¬ t.val % 9 = 0) : scrAt m c (prv t) = scrAt m c t := by
  unfold scrAt; rw [gAt_prv m c t h]

/-- The invariant inside a batch: the scratch holds the batch's decoded gradient. -/
def PhiG (c : Dev nD) (t : Fin cfg0.N) : sProp 𝕄 :=
  iprop(iprop(owns (c : Thread nD τ) scM0_0 fullShare (scrAt m c t) ∗ (∃ d, owns (c : Thread nD τ) scM0_1 fullShare d)) ∗ (∃ r, prngReg c r))

/-- The invariant before point `n`. -/
def PhiN (c : Dev nD) (n : ℕ) (hn : n ≤ cfg0.N) : sProp 𝕄 :=
  if h : n % 9 = 0 then Pipeline.ΦA spec0 c else PhiG m c ⟨n - 1, by
    have h0 : n ≠ 0 := fun e => h (by rw [e])
    omega⟩

theorem PhiG_le (c : Dev nD) (t : Fin cfg0.N) : PhiG m c t ⊢ (Pipeline.ΦA spec0 c : sProp 𝕄) := by
  rw [PhiA0_eq]
  unfold PhiG
  iintro ⟨⟨HS0, HS1⟩, Hg⟩
  isplitl [HS0 HS1]
  · isplitl [HS0]
    · iexists _; iexact HS0
    iexact HS1
  iexact Hg

/-- The proof data of the one pipeline on core `c`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dxAt m c t
    | ⟨8, _⟩ => codesAt m c t
    | ⟨9, _⟩ => scalesAt m c t
  Φ t := PhiN m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = dxAt m c t := by dsimp only [dats]
theorem after0_8 (c : Dev nD) (t : Fin cfg0.N) : (dats m 0 c).after 8 t = codesAt m c t := by dsimp only [dats]
theorem after0_9 (c : Dev nD) (t : Fin cfg0.N) : (dats m 0 c).after 9 t = scalesAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

theorem live0_8 (t : Fin cfg0.N) (h : t.val % 9 = 0) : cfg0.idle 8 (grid0.coords t) = false := by
  show (!(k0_cond1 (grid0.coords t) == 1#1)) = false
  rw [show k0_cond1 (grid0.coords t) = 1#1 from (hcond0_0 t).mpr h]; rfl

theorem idle0_8 (t : Fin cfg0.N) (h : ¬ t.val % 9 = 0) : cfg0.idle 8 (grid0.coords t) = true := by
  show (!(k0_cond1 (grid0.coords t) == 1#1)) = true
  rw [beq_eq_false_iff_ne.mpr (show k0_cond1 (grid0.coords t) ≠ 1#1 from fun e => h ((hcond0_0 t).mp e))]; rfl

/-- Inside a batch this window's buffer holds what the first point left. -/
theorem before0_8 (c : Dev nD) (n : ℕ) : ∀ (t : Fin cfg0.N), t.val = n → ¬ t.val % 9 = 0 → ∀ d, (dats m 0 c).before 8 t d = codesAt m c t := by
  induction n with
  | zero => intro t e h; exact absurd (by rw [e]) h
  | succ n ih =>
    intro t e h d
    rw [Dat.before_of_pos (dats m 0 c) 8 t (fun e => h (by rw [e])) rfl d]
    rw [if_neg fun e => by
      have h1 : (t.val - 1) % 9 = 8 := (flush0_8 (prv t)).mp e
      omega]
    show (dats m 0 c).left 8 (prv t) d = codesAt m c t
    rw [← codesAt_prv m c t h]
    unfold Dat.left
    by_cases h' : (prv t).val % 9 = 0
    · rw [live0_8 (prv t) h']
      exact after0_8 m c (prv t)
    · rw [idle0_8 (prv t) h']
      exact ih (prv t) (by show t.val - 1 = n; omega) h' d

/-- So it is left as the program's run wants it. -/
theorem leaves0_8 (c : Dev nD) (t : Fin cfg0.N) (h : ¬ t.val % 9 = 0) :
    owns (c : Thread nD τ) (ms0_8 t) fullShare (codesAt m c t) ⊢ ((dats m 0 c).leavesExact 8 t : sProp 𝕄) := by
  by_cases h8 : t.val % 9 = 8
  · unfold Dat.leavesExact
    rw [idle0_8 t h, (flush0_8 t).mpr h8, after0_8]
  · rw [Dat.leavesExact_idle (dats m 0 c) 8 t (idle0_8 t h) (Bool.eq_false_iff.mpr fun e => h8 ((flush0_8 t).mp e))]
    iintro H
    iexists (codesAt m c t)
    rw [before0_8 m c t.val t rfl h]
    iexact H

theorem live0_9 (t : Fin cfg0.N) (h : t.val % 9 = 0) : cfg0.idle 9 (grid0.coords t) = false := by
  show (!(k0_cond1 (grid0.coords t) == 1#1)) = false
  rw [show k0_cond1 (grid0.coords t) = 1#1 from (hcond0_0 t).mpr h]; rfl

theorem idle0_9 (t : Fin cfg0.N) (h : ¬ t.val % 9 = 0) : cfg0.idle 9 (grid0.coords t) = true := by
  show (!(k0_cond1 (grid0.coords t) == 1#1)) = true
  rw [beq_eq_false_iff_ne.mpr (show k0_cond1 (grid0.coords t) ≠ 1#1 from fun e => h ((hcond0_0 t).mp e))]; rfl

/-- Inside a batch this window's buffer holds what the first point left. -/
theorem before0_9 (c : Dev nD) (n : ℕ) : ∀ (t : Fin cfg0.N), t.val = n → ¬ t.val % 9 = 0 → ∀ d, (dats m 0 c).before 9 t d = scalesAt m c t := by
  induction n with
  | zero => intro t e h; exact absurd (by rw [e]) h
  | succ n ih =>
    intro t e h d
    rw [Dat.before_of_pos (dats m 0 c) 9 t (fun e => h (by rw [e])) rfl d]
    rw [if_neg fun e => by
      have h1 : (t.val - 1) % 9 = 8 := (flush0_9 (prv t)).mp e
      omega]
    show (dats m 0 c).left 9 (prv t) d = scalesAt m c t
    rw [← scalesAt_prv m c t h]
    unfold Dat.left
    by_cases h' : (prv t).val % 9 = 0
    · rw [live0_9 (prv t) h']
      exact after0_9 m c (prv t)
    · rw [idle0_9 (prv t) h']
      exact ih (prv t) (by show t.val - 1 = n; omega) h' d

/-- So it is left as the program's run wants it. -/
theorem leaves0_9 (c : Dev nD) (t : Fin cfg0.N) (h : ¬ t.val % 9 = 0) :
    owns (c : Thread nD τ) (ms0_9 t) fullShare (scalesAt m c t) ⊢ ((dats m 0 c).leavesExact 9 t : sProp 𝕄) := by
  by_cases h8 : t.val % 9 = 8
  · unfold Dat.leavesExact
    rw [idle0_9 t h, (flush0_9 t).mpr h8, after0_9]
  · rw [Dat.leavesExact_idle (dats m 0 c) 9 t (idle0_9 t h) (Bool.eq_false_iff.mpr fun e => h8 ((flush0_9 t).mp e))]
    iintro H
    iexists (scalesAt m c t)
    rw [before0_9 m c t.val t rfl h]
    iexact H

end Cert.KernelIdeal.Gen
-- ==== Proof.Freq.lean ====
/- The frequencies of the rotation: real numbers, so that an angle's cosine and sine are real and at most 1. -/
module

public import proofs.«01_k».proof.Proof.Spec

@[expose] public section

noncomputable section

namespace Mx

open Idealize.ShloMosaic

/-- The frequency at a feature of a half head. -/
def fr (f : Fin 64) : EReal :=
  Ideal.div 1 (Ideal.pow (Ideal.ofBits .f32 0x461C4000#32)
    (Ideal.div (Ideal.ofBits .f32 0x40000000#32 * FloatOps.sitofp (F := Ideal) .f32 (BitVec.ofNat 32 f.val)) (Ideal.ofBits .f32 0x43000000#32)))

/-- A position's angle at a feature. -/
def ang (p : BitVec 32) (f : Fin 64) : EReal := ((p.toInt : ℝ) : EReal) * fr f

theorem theta_bits : Ideal.ofBits .f32 0x461C4000#32 = (((2 ^ 23 + 1851392 : ℕ) * (2 : ℝ) ^ ((140 : ℤ) - 127 - 23) : ℝ) : EReal) := by
  have ha : ((0x461C4000#32 : BitVec 32).extractLsb' 31 1 == 1#1) = false := by decide
  have hb : ((0x461C4000#32 : BitVec 32).extractLsb' 23 8).toNat = 140 := by decide
  have hc : ((0x461C4000#32 : BitVec 32).extractLsb' 0 23).toNat = 1851392 := by decide
  rw [ofBits_ieee]
  unfold Ideal.ieee
  dsimp only
  rw [ha, hb, hc, if_neg (by omega), if_neg (by omega)]
  congr 1
  norm_num

theorem width_bits : Ideal.ofBits .f32 0x43000000#32 = ((128 : ℝ) : EReal) := by
  have ha : ((0x43000000#32 : BitVec 32).extractLsb' 31 1 == 1#1) = false := by decide
  have hb : ((0x43000000#32 : BitVec 32).extractLsb' 23 8).toNat = 134 := by decide
  have hc : ((0x43000000#32 : BitVec 32).extractLsb' 0 23).toNat = 0 := by decide
  rw [ofBits_ieee]
  unfold Ideal.ieee
  dsimp only
  rw [ha, hb, hc, if_neg (by omega), if_neg (by omega)]
  congr 1
  norm_num

theorem div_real (x y : ℝ) (h : y ≠ 0) : Ideal.div (x : EReal) (y : EReal) = ((x / y : ℝ) : EReal) := by
  unfold Ideal.div
  rw [if_neg (by exact_mod_cast h), ← EReal.coe_inv, ← EReal.coe_mul, div_eq_mul_inv]

theorem fr_real (f : Fin 64) : ∃ r : ℝ, fr f = (r : EReal) := by
  unfold fr
  rw [theta_bits, width_bits, two_bits,
    show FloatOps.sitofp (F := Ideal) .f32 (BitVec.ofNat 32 f.val) = (((BitVec.ofNat 32 f.val).toInt : ℝ) : EReal) from rfl,
    ← EReal.coe_mul, div_real _ _ (by norm_num)]
  set T : ℝ := ((2 ^ 23 + 1851392 : ℕ) * (2 : ℝ) ^ ((140 : ℤ) - 127 - 23) : ℝ) with hT
  have hpos : 0 < T := by positivity
  rw [show ∀ y : ℝ, Ideal.pow (T : EReal) (y : EReal) = ((Real.rpow T y : ℝ) : EReal) from fun _ => rfl, ← EReal.coe_one,
    div_real _ _ (show Real.rpow T _ ≠ 0 from (Real.rpow_pos_of_pos hpos _).ne')]
  exact ⟨_, rfl⟩

theorem cos_bound (p : BitVec 32) (f : Fin 64) : ∃ r : ℝ, Ideal.cos (ang p f) = (r : EReal) ∧ |r| ≤ 1 := by
  obtain ⟨r, hr⟩ := fr_real f
  unfold ang
  rw [hr, ← EReal.coe_mul]
  exact ⟨_, rfl, Real.abs_cos_le_one _⟩

theorem sin_bound (p : BitVec 32) (f : Fin 64) : ∃ r : ℝ, Ideal.sin (ang p f) = (r : EReal) ∧ |r| ≤ 1 := by
  obtain ⟨r, hr⟩ := fr_real f
  unfold ang
  rw [hr, ← EReal.coe_mul]
  exact ⟨_, rfl, Real.abs_sin_le_one _⟩

end Mx
-- ==== Proof.KHost.lean ====
/- The arrays as the region finds them, and the windows' blocks of them, in terms of the arguments. -/
module

public import proofs.«01_k».proof.Proof.KDat
public import proofs.«01_k».proof.Proof.Freq
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic Idealize.SL.Sem

variable (m : (ℓ : Loc nD τ sig) → Buf (Elt Ideal) ℓ) (ρ : Dev nD → PrngReg)

theorem V_v0 (c : Dev nD) : V m c main_v0 =
    transpose S5x36x384x128 [0, 2, 1, 3] (m ((c : Thread nD τ).loc main_arg0) : Vec Ideal S5x384x36x128 .bf16) transposes_S5x384x36x128_S5x36x384x128_0_2_1_3 := by
  show StableHlo.after hostOps0 (fun b => m (c, b)) (Proc.devRef .tc main_v0) = _
  after_results

theorem V_v1 (c : Dev nD) : V m c main_v1 =
    transpose S5x4x384x128 [0, 2, 1, 3] (m ((c : Thread nD τ).loc main_arg1) : Vec Ideal S5x384x4x128 .bf16) transposes_S5x384x4x128_S5x4x384x128_0_2_1_3 := by
  show StableHlo.after hostOps0 (fun b => m (c, b)) (Proc.devRef .tc main_v1) = _
  after_results

theorem V_v2 (c : Dev nD) : V m c main_v2 =
    transpose S5x4x384x128 [0, 2, 1, 3] (m ((c : Thread nD τ).loc main_arg2) : Vec Ideal S5x384x4x128 .bf16) transposes_S5x384x4x128_S5x4x384x128_0_2_1_3 := by
  show StableHlo.after hostOps0 (fun b => m (c, b)) (Proc.devRef .tc main_v2) = _
  after_results

theorem V_v3 (c : Dev nD) : V m c main_v3 =
    transpose S176x4608 [1, 0] (m ((c : Thread nD τ).loc main_arg5) : Vec Ideal S4608x176 .i8) transposes_S4608x176_S176x4608_1_0 := by
  show StableHlo.after hostOps0 (fun b => m (c, b)) (Proc.devRef .tc main_v3) = _
  after_results

theorem V_v16 (c : Dev nD) (f : Fin 64) (l : Fin 128) : (V m c main_v16 : Vec Ideal S64x128 .f32) (ix2 f l) = Mx.fr f := by
  show StableHlo.after hostOps0 (fun b => m (c, b)) (Proc.devRef .tc main_v16) (ix2 f l) = _
  after_results
  pointwise
  rfl

theorem tr0 (v : Vec Ideal S5x384x36x128 .bf16) (b : Fin 5) (h : Fin 36) (tok : Fin 384) (f : Fin 128) :
    transpose S5x36x384x128 [0, 2, 1, 3] v transposes_S5x384x36x128_S5x36x384x128_0_2_1_3 (ix4 b h tok f) = v (ix4 b tok h f) := by
  pointwise

theorem tr1 (v : Vec Ideal S5x384x4x128 .bf16) (b : Fin 5) (h : Fin 4) (tok : Fin 384) (f : Fin 128) :
    transpose S5x4x384x128 [0, 2, 1, 3] v transposes_S5x384x4x128_S5x4x384x128_0_2_1_3 (ix4 b h tok f) = v (ix4 b tok h f) := by
  pointwise

theorem tr3 (v : Vec Ideal S4608x176 .i8) (j : Fin 176) (r : Fin 4608) :
    transpose S176x4608 [1, 0] v transposes_S4608x176_S176x4608_1_0 (ix2 j r) = v (ix2 r j) := by
  pointwise

theorem idx0 : ∀ t : Fin cfg0.N, win0_0.index t = ![t.val / 9, 0, 0, 0] ∧ win0_1.index t = ![t.val / 9, 0, 0, 0] ∧ win0_2.index t = ![t.val / 9, 0, 0, 0]
    ∧ win0_3.index t = ![0, 0] ∧ win0_4.index t = ![0, 0] ∧ win0_5.index t = ![t.val % 9, 0] ∧ win0_6.index t = ![0, t.val % 9] := by decide +kernel

theorem lt5 (t : Fin cfg0.N) : t.val / 9 < 5 := by have := t.isLt; have : cfg0.N = 45 := N_0; omega

theorem col_lt (t : Fin cfg0.N) (r : Fin 512) : 512 * (t.val % 9) + r.val < 4608 := by omega

/-- The batch of a point. -/
def bat (t : Fin cfg0.N) : Fin 5 := ⟨t.val / 9, lt5 t⟩

/-- A product column of a point's block. -/
def colOf (t : Fin cfg0.N) (r : Fin 512) : Fin 4608 := ⟨512 * (t.val % 9) + r.val, col_lt t r⟩

theorem iblk0 (c : Dev nD) (t : Fin cfg0.N) (z : Fin 1) (h : Fin 36) (tok : Fin 384) (f : Fin 128) :
    (iblk m c 0 t : Vec Ideal S1x36x384x128 .bf16) (ix4 z h tok f) = (V m c main_v0 : Vec Ideal S5x36x384x128 .bf16) (ix4 (bat t) h tok f) := by
  blk_ext [iblk, V, bat, (idx0 t).1]

theorem iblk1 (c : Dev nD) (t : Fin cfg0.N) (z : Fin 1) (h : Fin 4) (tok : Fin 384) (f : Fin 128) :
    (iblk m c 1 t : Vec Ideal S1x4x384x128 .bf16) (ix4 z h tok f) = (V m c main_v1 : Vec Ideal S5x4x384x128 .bf16) (ix4 (bat t) h tok f) := by
  blk_ext [iblk, V, bat, (idx0 t).2.1]

theorem iblk2 (c : Dev nD) (t : Fin cfg0.N) (z : Fin 1) (h : Fin 4) (tok : Fin 384) (f : Fin 128) :
    (iblk m c 2 t : Vec Ideal S1x4x384x128 .bf16) (ix4 z h tok f) = (V m c main_v2 : Vec Ideal S5x4x384x128 .bf16) (ix4 (bat t) h tok f) := by
  blk_ext [iblk, V, bat, (idx0 t).2.2.1]

theorem iblk3 (c : Dev nD) (t : Fin cfg0.N) (b : Fin 5) (tok : Fin 384) :
    (iblk m c 3 t : Vec Ideal S5x384 .i32) (ix2 b tok) = (V m c main_arg3 : Vec Ideal S5x384 .i32) (ix2 b tok) := by
  blk_ext [iblk, V, (idx0 t).2.2.2.1]

theorem iblk4 (c : Dev nD) (t : Fin cfg0.N) (f : Fin 64) (l : Fin 128) :
    (iblk m c 4 t : Vec Ideal S64x128 .f32) (ix2 f l) = (V m c main_v16 : Vec Ideal S64x128 .f32) (ix2 f l) := by
  blk_ext [iblk, V, (idx0 t).2.2.2.2.1]

theorem iblk5 (c : Dev nD) (t : Fin cfg0.N) (r : Fin 512) (k : Fin 5632) :
    (iblk m c 5 t : Vec Ideal S512x5632 .fp8e4m3) (ix2 r k) = (V m c main_arg4 : Vec Ideal S4608x5632 .fp8e4m3) (ix2 (colOf t r) k) := by
  blk_ext [iblk, V, colOf, (idx0 t).2.2.2.2.2.1]

theorem iblk6 (c : Dev nD) (t : Fin cfg0.N) (j : Fin 176) (r : Fin 512) :
    (iblk m c 6 t : Vec Ideal S176x512 .i8) (ix2 j r) = (V m c main_v3 : Vec Ideal S176x4608 .i8) (ix2 j (colOf t r)) := by
  blk_ext [iblk, V, colOf, (idx0 t).2.2.2.2.2.2]

theorem bat_b0 (t : Fin cfg0.N) : bat (b0 t) = bat t := Fin.ext (by show (t.val - t.val % 9) / 9 = t.val / 9; omega)

theorem coord0 : ∀ t : Fin cfg0.N, (grid0.coords t 0).val = t.val / 9 := by decide +kernel

/-- The mask picks the position of the batch. -/
theorem pick (p : Fin 5 → BitVec 32) (b : Fin 5) : (Finset.univ.fold IntOp.addi 0#32 fun x : Fin 5 =>
      Scalar.select (IntOp.cmpi .eq (BitVec.ofNat 32 x.val) (BitVec.ofNat 32 b.val)) (p x) 0#32) = p b := by
  rw [show (Finset.univ : Finset (Fin 5)) = {0, 1, 2, 3, 4} from by decide]
  fin_cases b <;> simp [Finset.fold_insert, Finset.fold_singleton, Scalar.select, IntOp.addi, IntOp.cmpi]

/-- The gradient of batch `b`, token `tok`, from the arguments. -/
def gM (c : Dev nD) (b : Fin 5) (tok : Fin 384) : Fin 5632 → EReal :=
  Mx.grad (fun h f => (m ((c : Thread nD τ).loc main_arg0) : Vec Ideal S5x384x36x128 .bf16) (ix4 b tok h f))
    (fun h f => (m ((c : Thread nD τ).loc main_arg1) : Vec Ideal S5x384x4x128 .bf16) (ix4 b tok h f))
    (fun h f => (m ((c : Thread nD τ).loc main_arg2) : Vec Ideal S5x384x4x128 .bf16) (ix4 b tok h f))
    (fun f => Ideal.cos (Mx.ang ((m ((c : Thread nD τ).loc main_arg3) : Vec Ideal S5x384 .i32) (ix2 b tok)) f))
    (fun f => Ideal.sin (Mx.ang ((m ((c : Thread nD τ).loc main_arg3) : Vec Ideal S5x384 .i32) (ix2 b tok)) f))

theorem ang_eq (c : Dev nD) (t : Fin cfg0.N) (tok : Fin 384) (f : Fin 64) :
    bAng (iblk m c 3 (b0 t)) (iblk m c 4 (b0 t)) (BitVec.ofNat 32 (grid0.coords (b0 t) 0).val) tok f
      = Mx.ang ((m ((c : Thread nD τ).loc main_arg3) : Vec Ideal S5x384 .i32) (ix2 (bat t) tok)) f := by
  have h1 : BitVec.ofNat 32 (grid0.coords (b0 t) 0).val = BitVec.ofNat 32 (bat t).val := by
    rw [coord0 (b0 t), ← bat_b0 t]; rfl
  unfold bAng Mx.ang
  rw [h1, pick (fun x => (iblk m c 3 (b0 t) : Vec Ideal S5x384 .i32) (ix2 x tok)) (bat t)]
  refine congrArg₂ (fun (p : BitVec 32) (x : EReal) => ((p.toInt : ℝ) : EReal) * x) ?_ ?_
  · exact (iblk3 m c (b0 t) (bat t) tok).trans (congrFun (V_main_arg3 m c) _)
  · exact (iblk4 m c (b0 t) f _).trans (V_v16 m c f _)

/-- The gradient a point works on is its batch's. -/
theorem gAt_eq (c : Dev nD) (t : Fin cfg0.N) (tok : Fin 384) : gAt m c t tok = gM m c (bat t) tok := by
  unfold gAt bG gM
  have e0 : (fun (h : Fin 36) (f : Fin 128) => (iblk m c 0 (b0 t) : Vec Ideal S1x36x384x128 .bf16) (ix4 0 h tok f))
      = fun h f => (m ((c : Thread nD τ).loc main_arg0) : Vec Ideal S5x384x36x128 .bf16) (ix4 (bat t) tok h f) := by
    funext h f
    rw [iblk0, bat_b0]
    exact (congrFun (V_v0 m c) _).trans (tr0 _ _ _ _ _)
  have e1 : (fun (h : Fin 4) (f : Fin 128) => (iblk m c 1 (b0 t) : Vec Ideal S1x4x384x128 .bf16) (ix4 0 h tok f))
      = fun h f => (m ((c : Thread nD τ).loc main_arg1) : Vec Ideal S5x384x4x128 .bf16) (ix4 (bat t) tok h f) := by
    funext h f
    rw [iblk1, bat_b0]
    exact (congrFun (V_v1 m c) _).trans (tr1 _ _ _ _ _)
  have e2 : (fun (h : Fin 4) (f : Fin 128) => (iblk m c 2 (b0 t) : Vec Ideal S1x4x384x128 .bf16) (ix4 0 h tok f))
      = fun h f => (m ((c : Thread nD τ).loc main_arg2) : Vec Ideal S5x384x4x128 .bf16) (ix4 (bat t) tok h f) := by
    funext h f
    rw [iblk2, bat_b0]
    exact (congrFun (V_v2 m c) _).trans (tr1 _ _ _ _ _)
  have e3 : (fun f : Fin 64 => Ideal.cos (bAng (iblk m c 3 (b0 t)) (iblk m c 4 (b0 t)) (BitVec.ofNat 32 (grid0.coords (b0 t) 0).val) tok f))
      = fun f => Ideal.cos (Mx.ang ((m ((c : Thread nD τ).loc main_arg3) : Vec Ideal S5x384 .i32) (ix2 (bat t) tok)) f) :=
    funext fun f => congrArg Ideal.cos (ang_eq m c t tok f)
  have e4 : (fun f : Fin 64 => Ideal.sin (bAng (iblk m c 3 (b0 t)) (iblk m c 4 (b0 t)) (BitVec.ofNat 32 (grid0.coords (b0 t) 0).val) tok f))
      = fun f => Ideal.sin (Mx.ang ((m ((c : Thread nD τ).loc main_arg3) : Vec Ideal S5x384 .i32) (ix2 (bat t) tok)) f) :=
    funext fun f => congrArg Ideal.sin (ang_eq m c t tok f)
  rw [e0, e1, e2, e3, e4]

theorem w_eq (c : Dev nD) (t : Fin cfg0.N) (r : Fin 512) (k : Fin 5632) : (iblk m c 5 t : Vec Ideal S512x5632 .fp8e4m3) (ix2 r k)
    = (m ((c : Thread nD τ).loc main_arg4) : Vec Ideal S4608x5632 .fp8e4m3) (ix2 (colOf t r) k) :=
  (iblk5 m c t r k).trans (congrFun (V_main_arg4 m c) _)

theorem ws_eq (c : Dev nD) (t : Fin cfg0.N) (j : Fin 176) (r : Fin 512) : (iblk m c 6 t : Vec Ideal S176x512 .i8) (ix2 j r)
    = (m ((c : Thread nD τ).loc main_arg5) : Vec Ideal S4608x176 .i8) (ix2 (colOf t r) j) :=
  (iblk6 m c t j r).trans ((congrFun (V_v3 m c) _).trans (tr3 _ _ _))

end Cert.KernelIdeal.Gen
-- ==== Proof.KLeft.lean ====
/- The body at every point of the grid, and the run of the whole program at the extended reals. -/
module

public import proofs.«01_k».proof.Proof.KDat
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## What the runs leave -/

theorem isWhole0 : scM0_0.IsWhole := Memref.isWhole_whole _
theorem isWhole1 : scM0_1.IsWhole := Memref.isWhole_whole _

theorem gAt_first (c : Dev nD) (t : Fin cfg0.N) (h : t.val % 9 = 0) (tok : Fin 384) :
    bG (iblk m c 0 t) (iblk m c 1 t) (iblk m c 2 t) (iblk m c 3 t) (iblk m c 4 t) (BitVec.ofNat 32 (grid0.coords t 0).val) tok = gAt m c t tok := by
  unfold gAt; rw [b0_of_first t h]

theorem leftA_codes (c : Dev nD) (t : Fin cfg0.N) (h : t.val % 9 = 0) (hc) :
    View.canon (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 isWhole0 scM0_1 isWhole1 hc (iblk m c 0 t) (iblk m c 1 t) (iblk m c 2 t) (iblk m c 3 t) (iblk m c 4 t) (iblk m c 5 t) (iblk m c 6 t)).2.1 = codesAt m c t := by
  rw [runA_codes]
  funext y
  rw [eq_ix3 y]
  refine (codes_apply (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (iblk m c 4 t) (y 0) (y 1) (y 2)).trans ?_
  exact congrArg (fun G => Mx.kcode G (y 2)) (gAt_first m c t h (y 1))

theorem leftA_g (c : Dev nD) (t : Fin cfg0.N) (h : t.val % 9 = 0) :
    View.canon (fG (F := Ideal) (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (iblk m c 4 t)) = scrAt m c t := by
  funext y
  rw [eq_ix2 y]
  refine (g_apply (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (iblk m c 4 t) (y 0) (y 1)).trans ?_
  exact congrArg (fun G => Mx.kdec G (y 1)) (gAt_first m c t h (y 0))

theorem leftA_scales (c : Dev nD) (t : Fin cfg0.N) (h : t.val % 9 = 0) (hc) :
    View.canon (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 isWhole0 scM0_1 isWhole1 hc (iblk m c 0 t) (iblk m c 1 t) (iblk m c 2 t) (iblk m c 3 t) (iblk m c 4 t) (iblk m c 5 t) (iblk m c 6 t)).2.2.1 = scalesAt m c t := by
  rw [runA_scales]
  funext y
  rw [eq_ix3 y]
  refine (scales_apply (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (iblk m c 4 t) _ (y 0) (y 1) (y 2)).trans ?_
  exact congrArg (fun G => Mx.kscale G (y 1)) (gAt_first m c t h (y 2))

theorem leftA_dx (c : Dev nD) (t : Fin cfg0.N) (h : t.val % 9 = 0) (hc) :
    View.canon (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 isWhole0 scM0_1 isWhole1 hc (iblk m c 0 t) (iblk m c 1 t) (iblk m c 2 t) (iblk m c 3 t) (iblk m c 4 t) (iblk m c 5 t) (iblk m c 6 t)).1 = dxAt m c t := by
  rw [runA_dx, View.canon_unit_zero (by decide)]
  have e := runA_g c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 isWhole0 scM0_1 isWhole1 hc (iblk m c 0 t) (iblk m c 1 t) (iblk m c 2 t) (iblk m c 3 t) (iblk m c 4 t) (iblk m c 5 t) (iblk m c 6 t)
  rw [show runA.sl.HS0_132 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (iblk m c 4 t) = fG (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (iblk m c 4 t) from e]
  funext y
  rw [eq_ix3 y]
  refine (pDx_apply (ms0_5 t) (hs0_5 t) (ms0_6 t) (hs0_6 t) (iblk m c 5 t) (iblk m c 6 t) _ (fun tok => Mx.kdec (gAt m c t tok)) (fun k tok f => ?_) (y 0) (y 1) (y 2)).trans rfl
  rw [View.readCov_eq_canon', leftA_g m c t h]
  exact View.ld_unit_apply_of (scrAt m c t) _ _ _ _ (ix2 tok ⟨256 * k.val + f.val, by omega⟩) fun a => match a with
    | 0 => (Nat.zero_add _).symm | 1 => rfl

theorem leftB_dx (c : Dev nD) (t : Fin cfg0.N) (hc) :
    View.canon (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 isWhole0 scM0_1 isWhole1 hc (iblk m c 0 t) (iblk m c 1 t) (iblk m c 2 t) (iblk m c 3 t) (iblk m c 4 t) (iblk m c 5 t) (iblk m c 6 t) (scrAt m c t)).val = dxAt m c t := by
  rw [runB_dx, View.canon_unit_zero (by decide)]
  funext y
  rw [eq_ix3 y]
  refine (pDx_apply (ms0_5 t) (hs0_5 t) (ms0_6 t) (hs0_6 t) (iblk m c 5 t) (iblk m c 6 t) _ (fun tok => Mx.kdec (gAt m c t tok)) (fun k tok f => ?_) (y 0) (y 1) (y 2)).trans rfl
  refine (Memref.IsWhole.readAt_unread isWhole0 (scrAt m c t) _ _).trans ?_
  exact View.ld_unit_apply_of (scrAt m c t) _ _ _ _ (ix2 tok ⟨256 * k.val + f.val, by omega⟩) fun a => match a with
    | 0 => (Nat.zero_add _).symm | 1 => rfl

end Cert.KernelIdeal.Gen
-- ==== Proof.KRun.lean ====
/- The obligation of the body at every point of the grid, and the run of the whole program at the extended reals. -/
module

public import proofs.«01_k».proof.Proof.KLeft
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- What a covering list of stores leaves is the array it spells. -/
theorem owns_of_writes {S : Shape} {e : EltTy} (c : Dev nD) (a : Memref sig .tc .vmem S e) (L : List (View.Piece (Elt Ideal) S e))
    (hL : ∀ y, ∃ p ∈ L, y ∈ p.1.set) (X : S.Idx → Elt Ideal e) (hX : View.canon L = X) :
    (iprop(∃ f, (a.view.loc (c : Thread nD τ)) ↦[a.view.set]{fullShare} a.view.writes (Elt Ideal) f L) : sProp 𝕄)
      ⊢ owns (c : Thread nD τ) a fullShare X := by
  unfold owns
  iintro ⟨%f, H⟩
  iexists (a.view.writes (Elt Ideal) f L)
  isplitr
  · ipureintro; exact (View.read_writes_eq_canon _ f L hL).trans hX
  iexact H

/-- What any list of stores leaves is some array. -/
theorem owns_of_writes_some {S : Shape} {e : EltTy} (c : Dev nD) (a : Memref sig .tc .vmem S e) (L : List (View.Piece (Elt Ideal) S e)) :
    (iprop(∃ f, (a.view.loc (c : Thread nD τ)) ↦[a.view.set]{fullShare} a.view.writes (Elt Ideal) f L) : sProp 𝕄)
      ⊢ iprop(∃ d, owns (c : Thread nD τ) a fullShare d) := by
  unfold owns
  iintro ⟨%f, H⟩
  iexists _
  iexists (a.view.writes (Elt Ideal) f L)
  isplitr
  · ipureintro; rfl
  iexact H

/-- A store of the whole block covers it. -/
theorem whole_cover {S : Shape} {e : EltTy} {off : Fin S.rank → ℕ} (h : off = fun _ => 0) (inb : ∀ a, off a + S.size a ≤ S.size a)
    (w : (Rect.unit off S.size inb).shape.Idx → Elt Ideal e) (y : S.Idx) :
    ∃ p ∈ [(⟨Rect.unit off S.size inb, w⟩ : View.Piece (Elt Ideal) S e)], y ∈ p.1.set := by
  subst h
  exact ⟨_, List.mem_singleton.mpr rfl, (Rect.mem_set_unit (inb := inb)).mpr fun a => ⟨Nat.zero_le _, by rw [Nat.zero_add]; exact (y a).isLt⟩⟩

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

theorem Phi_first (c : Dev nD) (t : Fin cfg0.N) (h : t.val % 9 = 0) : (dats m 0 c).Φ t.castSucc = Pipeline.ΦA spec0 c := by
  dsimp only [dats]
  refine (Pipeline.Dat.Φ_castSucc (PhiN m c) t).trans ?_
  unfold PhiN; rw [dif_pos h]

theorem Phi_later (c : Dev nD) (t : Fin cfg0.N) (h : ¬ t.val % 9 = 0) : (dats m 0 c).Φ t.castSucc = PhiG m c t := by
  dsimp only [dats]
  refine (Pipeline.Dat.Φ_castSucc (PhiN m c) t).trans ?_
  unfold PhiN; rw [dif_neg h]
  show PhiG m c (prv t) = PhiG m c t
  unfold PhiG; rw [scrAt_prv m c t h]

theorem Phi_next (c : Dev nD) (t : Fin cfg0.N) : PhiG m c t ⊢ (dats m 0 c).Φ t.succ := by
  dsimp only [dats]
  show PhiG m c t ⊢ PhiN m c (t.val + 1) _
  unfold PhiN
  by_cases h : (t.val + 1) % 9 = 0
  · rw [dif_pos h]; exact PhiG_le m c t
  · rw [dif_neg h]; exact .rfl

set_option maxHeartbeats 2400000 in
/-- The body at the first point of a batch. -/
theorem sound_first (c : Dev nD) (t : Fin cfg0.N) (h0 : t.val % 9 = 0) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [Phi_first m c t h0, PhiA0_eq]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [liveAt0_4 t], after0_4]
  rw [show (dats m 0 c).leavesExact 5 t = owns (c : Thread nD τ) (ms0_5 t) fullShare ((dats m 0 c).after 5 t) from by
      unfold Dat.leavesExact; rw [liveAt0_5 t], after0_5]
  rw [show (dats m 0 c).leavesExact 6 t = owns (c : Thread nD τ) (ms0_6 t) fullShare ((dats m 0 c).after 6 t) from by
      unfold Dat.leavesExact; rw [liveAt0_6 t], after0_6]
  rw [show (dats m 0 c).leavesExact 7 t = owns (c : Thread nD τ) (ms0_7 t) fullShare ((dats m 0 c).after 7 t) from rfl, after0_7]
  rw [show (dats m 0 c).leavesExact 8 t = owns (c : Thread nD τ) (ms0_8 t) fullShare ((dats m 0 c).after 8 t) from by
      unfold Dat.leavesExact; rw [live0_8 t h0], after0_8]
  rw [show (dats m 0 c).leavesExact 9 t = owns (c : Thread nD τ) (ms0_9 t) fullShare ((dats m 0 c).after 9 t) from by
      unfold Dat.leavesExact; rw [live0_9 t h0], after0_9]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 isWhole0 scM0_1 isWhole1 ((hcond0_0 t).mpr h0) (iblk m c 0 t) (iblk m c 1 t) (iblk m c 2 t) (iblk m c 3 t) (iblk m c 4 t) (iblk m c 5 t) (iblk m c 6 t)).2.2.2.2.property Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [HS0]; · iexact HS0
  isplitl [HS1]; · iexact HS1
  iintro ⟨H0, H1, H2, H3, H4, H5, H6, H7, H8, H9, HS0, HS1⟩
  isplitl [HS0 HS1 Hg]
  · iapply (Phi_next m c t)
    unfold PhiG
    isplitl [HS0 HS1]
    · isplitl [HS0]
      · iapply (owns_of_writes c scM0_0 (fG (F := Ideal) (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (iblk m c 4 t)) (g_cover (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (iblk m c 4 t)) (scrAt m c t) (leftA_g m c t h0))
        iexact HS0
      iapply (owns_of_writes_some c scM0_1 _)
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iapply (owns_of_writes c (ms0_7 t) (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 isWhole0 scM0_1 isWhole1 ((hcond0_0 t).mpr h0) (iblk m c 0 t) (iblk m c 1 t) (iblk m c 2 t) (iblk m c 3 t) (iblk m c 4 t) (iblk m c 5 t) (iblk m c 6 t)).1 (by rw [runA_dx]; exact whole_cover (by decide) _ _) (dxAt m c t) (leftA_dx m c t h0 ((hcond0_0 t).mpr h0)))
    iexact H7
  isplitl [H8]
  · iapply (owns_of_writes c (ms0_8 t) (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 isWhole0 scM0_1 isWhole1 ((hcond0_0 t).mpr h0) (iblk m c 0 t) (iblk m c 1 t) (iblk m c 2 t) (iblk m c 3 t) (iblk m c 4 t) (iblk m c 5 t) (iblk m c 6 t)).2.1 (by rw [runA_codes]; exact codes_cover (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (iblk m c 4 t)) (codesAt m c t) (leftA_codes m c t h0 ((hcond0_0 t).mpr h0)))
    iexact H8
  iapply (owns_of_writes c (ms0_9 t) (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 isWhole0 scM0_1 isWhole1 ((hcond0_0 t).mpr h0) (iblk m c 0 t) (iblk m c 1 t) (iblk m c 2 t) (iblk m c 3 t) (iblk m c 4 t) (iblk m c 5 t) (iblk m c 6 t)).2.2.1 (by rw [runA_scales]; exact whole_cover (by decide) _ _) (scalesAt m c t) (leftA_scales m c t h0 ((hcond0_0 t).mpr h0)))
  iexact H9

set_option maxHeartbeats 2400000 in
/-- The body at the other points. -/
theorem sound_later (c : Dev nD) (t : Fin cfg0.N) (h0 : ¬ t.val % 9 = 0) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_8 m c t.val t rfl h0, before0_9 m c t.val t rfl h0]
  rw [show (dats m 0 c).owesAt () t.succ = (dats m 0 c).owesAt () t.castSucc from rfl]
  rw [Phi_later m c t h0]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [liveAt0_4 t], after0_4]
  rw [show (dats m 0 c).leavesExact 5 t = owns (c : Thread nD τ) (ms0_5 t) fullShare ((dats m 0 c).after 5 t) from by
      unfold Dat.leavesExact; rw [liveAt0_5 t], after0_5]
  rw [show (dats m 0 c).leavesExact 6 t = owns (c : Thread nD τ) (ms0_6 t) fullShare ((dats m 0 c).after 6 t) from by
      unfold Dat.leavesExact; rw [liveAt0_6 t], after0_6]
  rw [show (dats m 0 c).leavesExact 7 t = owns (c : Thread nD τ) (ms0_7 t) fullShare ((dats m 0 c).after 7 t) from rfl, after0_7]
  unfold PhiG
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 isWhole0 scM0_1 isWhole1 (fun h => h0 ((hcond0_0 t).mp h)) (iblk m c 0 t) (iblk m c 1 t) (iblk m c 2 t) (iblk m c 3 t) (iblk m c 4 t) (iblk m c 5 t) (iblk m c 6 t) (scrAt m c t)).property Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  iintro ⟨H0, H1, H2, H3, H4, H5, H6, H7, HS0⟩
  isplitl [HS0 HS1 Hg]
  · iapply (Phi_next m c t)
    unfold PhiG
    isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iapply (owns_of_writes c (ms0_7 t) (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 isWhole0 scM0_1 isWhole1 (fun h => h0 ((hcond0_0 t).mp h)) (iblk m c 0 t) (iblk m c 1 t) (iblk m c 2 t) (iblk m c 3 t) (iblk m c 4 t) (iblk m c 5 t) (iblk m c 6 t) (scrAt m c t)).val (by rw [runB_dx]; exact whole_cover (by decide) _ _) (dxAt m c t) (leftB_dx m c t (fun h => h0 ((hcond0_0 t).mp h))))
    iexact H7
  isplitl [H8]
  · iapply (leaves0_8 m c t h0)
    iexact H8
  iapply (leaves0_9 m c t h0)
  iexact H9

theorem sound_body (c : Dev nD) (t : Fin cfg0.N) :
    bodyPre m c t ⊢ wp frame (wpE (defs₀ (F := Ideal)) Variants.none c none) Set.univ (bodyAt0 t) (fun _ => bodyPost m c t) := by
  by_cases h : t.val % 9 = 0
  · exact sound_first m c t h
  · exact sound_later m c t h

theorem defs₀_row (t : Fin cfg0.N) :
    defs₀ (F := Ideal) .tc cfg0.body (cfg0.bodyArgs t (cfg0.slots t)) = bodyAt0 t := by
  unfold defs₀; rw [Defs.onTc_tc]

/-- The body's obligation at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem Phi_in (c : Dev nD) : (Pipeline.ΦA spec0 c : sProp 𝕄) ⊢ (dats m 0 c).Φ 0 := by
  dsimp only [dats]
  show _ ⊢ PhiN m c 0 _
  unfold PhiN; rw [dif_pos (by decide)]

theorem Phi_out (c : Dev nD) : (dats m 0 c).Φ (Fin.last cfg0.N) ⊢ (Pipeline.ΦA spec0 c : sProp 𝕄) := by
  dsimp only [dats]
  have hN : cfg0.N = 45 := N_0
  show PhiN m c cfg0.N _ ⊢ _
  unfold PhiN; rw [dif_pos (by rw [hN])]

set_option backward.isDefEq.respectTransparency.types false in
set_option maxHeartbeats 800000 in
/-- The run: every array of the pipeline ends at what the points left, and every semaphore at zero. -/
theorem run_main_quiescent : θ_run defs (onTc (τ := τ) (main (F := Ideal))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := Phi_in m) (hout := Phi_out m)

theorem run_main : θ_run defs (onTc (τ := τ) (main (F := Ideal))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.KernelIdeal.Gen
-- ==== Proof.KOut.lean ====
/- The three results of the kernel, as functions of its arguments. -/
module

public import proofs.«01_k».proof.Proof.KHost
public import proofs.«01_k».proof.Proof.KRun

@[expose] public section

set_option maxRecDepth 16384

noncomputable section

namespace Cert.KernelIdeal.Gen

open Idealize.ShloMosaic Idealize.ShloMosaic.TcCoe Idealize.ShloMosaic.Tactic Idealize.SL.Sem

variable (m : (ℓ : Loc nD τ sig) → Buf (Elt Ideal) ℓ) (ρ : Dev nD → PrngReg)

/-- The product. -/
def oDx (c : Dev nD) : Vec Ideal S5x384x4608 .bf16 := fun y =>
  Mx.kdx (gM m c (y 0) (y 1)) (fun k => (m ((c : Thread nD τ).loc main_arg4) : Vec Ideal S4608x5632 .fp8e4m3) (ix2 (y 2) k))
    (fun j => (m ((c : Thread nD τ).loc main_arg5) : Vec Ideal S4608x176 .i8) (ix2 (y 2) j))

/-- The codes. -/
def oCodes (c : Dev nD) : Vec Ideal S5x384x5632 .fp8e5m2 := fun y => Mx.kcode (gM m c (y 0) (y 1)) (y 2)

/-- The scale codes, group by token. -/
def oScalesT (c : Dev nD) : Vec Ideal S5x176x384 .i8 := fun y => Mx.kscale (gM m c (y 0) (y 2)) (y 1)

/-- The scale codes. -/
def oScales (c : Dev nD) : Vec Ideal S5x384x176 .i8 := fun y => Mx.kscale (gM m c (y 0) (y 1)) (y 2)

theorem idxO : ∀ t : Fin cfg0.N, win0_7.index t = ![t.val / 9, 0, t.val % 9] ∧ win0_8.index t = ![t.val / 9, 0, 0] ∧ win0_9.index t = ![t.val / 9, 0, 0] := by decide +kernel

theorem pt7 (c : Dev nD) (t : Fin cfg0.N) (y : S1x384x512.Idx) : dxAt m c t y = oDx m c (ix3 (bat t) (y 1) (colOf t (y 2))) := by
  refine Eq.trans (congrArg (fun g => Mx.kdx g _ _) (gAt_eq m c t (y 1))) ?_
  exact congrArg₂ (Mx.kdx (gM m c (bat t) (y 1))) (funext fun k => w_eq m c t (y 2) k) (funext fun j => ws_eq m c t j (y 2))

theorem arr7 (c : Dev nD) : (dats m 0 c).arrAt 7 cfg0.N = oDx m c := by
  refine (dats m 0 c).arrAt_eq_of_covers 7 _ (by decide +kernel) fun t hf y => ?_
  blk_simp
  rw [after0_7]
  refine (pt7 m c t y).trans (congrArg (oDx m c) ?_)
  blk_ext [bat, colOf, (idxO t).1]

theorem pt8 (c : Dev nD) (t : Fin cfg0.N) (y : S1x384x5632.Idx) : codesAt m c t y = oCodes m c (ix3 (bat t) (y 1) (y 2)) := by
  exact congrArg (fun g => Mx.kcode g (y 2)) (gAt_eq m c t (y 1))

theorem arr8 (c : Dev nD) : (dats m 0 c).arrAt 8 cfg0.N = oCodes m c := by
  refine (dats m 0 c).arrAt_eq_of_covers 8 _ (by decide +kernel) fun t hf y => ?_
  blk_simp
  rw [after0_8]
  refine (pt8 m c t y).trans (congrArg (oCodes m c) ?_)
  blk_ext [bat, colOf, (idxO t).2.1]

theorem pt9 (c : Dev nD) (t : Fin cfg0.N) (y : S1x176x384.Idx) : scalesAt m c t y = oScalesT m c (ix3 (bat t) (y 1) (y 2)) := by
  exact congrArg (fun g => Mx.kscale g (y 1)) (gAt_eq m c t (y 2))

theorem arr9 (c : Dev nD) : (dats m 0 c).arrAt 9 cfg0.N = oScalesT m c := by
  refine (dats m 0 c).arrAt_eq_of_covers 9 _ (by decide +kernel) fun t hf y => ?_
  blk_simp
  rw [after0_9]
  refine (pt9 m c t y).trans (congrArg (oScalesT m c) ?_)
  blk_ext [bat, colOf, (idxO t).2.2]

theorem trS (v : Vec Ideal S5x176x384 .i8) (b : Fin 5) (tok : Fin 384) (j : Fin 176) :
    transpose S5x384x176 [0, 2, 1] v transposes_S5x176x384_S5x384x176_0_2_1 (ix3 b tok j) = v (ix3 b j tok) := by
  pointwise

theorem tail18 (c : Dev nD) : Pipeline.afterTail₀ cfgs (dats m) 0 (V0 m) [hostOps1] c main_v18 = oScales m c := by
  have h : Pipeline.withArrays (cfgs 0).spec c (V0 m c) (fun w => (dats m 0 c).arrAt w (cfgs 0).N) (Proc.devRef .tc main_v17_2) = oScalesT m c :=
    (Pipeline.withArrays_arr spec0 (by decide) c (V0 m c) (fun w => (dats m 0 c).arrAt w (cfgs 0).N) 9).trans (arr9 m c)
  unfold Pipeline.afterTail₀
  simp only [List.flatten_cons, List.flatten_nil, List.append_nil]
  after_results
  refine (congrArg (fun v : Vec Ideal S5x176x384 .i8 => transpose S5x384x176 [0, 2, 1] v transposes_S5x176x384_S5x384x176_0_2_1) h).trans ?_
  funext y
  refine (congrArg _ (eq_ix3 y)).trans ((trS _ _ _ _).trans ?_)
  rfl

theorem out_of (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_v17_0) = oDx m c ∧ r.2.mem ((c.tc : Thread nD τ).loc main_v17_1) = oCodes m c
      ∧ r.2.mem ((c.tc : Thread nD τ).loc main_v18) = oScales m c :=
  ⟨((h c).1 7).trans (arr7 m c), ((h c).1 8).trans (arr8 m c),
    ((h c).2 main_v18 (Pipeline.mem_restRefs_of main_v18 (by decide) (by decide))).trans (tail18 m c)⟩

end Cert.KernelIdeal.Gen
-- ==== Proof.RPayA.lean ====
/- What the reference's body leaves, read at an index. -/
module

public import proofs.«01_k».proof.Proof.Spec
public import proofs.«01_k».proof.Proof.Gen.ReferenceIdeal.Frame
public import Idealize.ShloMosaic.Lib.Pipeline.ValueKit

@[expose] public section

set_option maxRecDepth 16384

noncomputable section

namespace Cert.ReferenceIdeal.Gen

open Idealize.ShloMosaic Idealize.ShloMosaic.TcCoe Idealize.ShloMosaic.Tactic Idealize.SL.Sem

section
variable (dq : Fin 36 → Fin 128 → EReal) (dk dv : Fin 4 → Fin 128 → EReal) (co si : Fin 64 → EReal)

theorem gradH_q (h : Fin 44) (c : Fin 128) (hq : h.val < 36) : Mx.gradH dq dk dv co si h c = Mx.rot (dq ⟨h.val, hq⟩) co si c := by
  unfold Mx.gradH; rw [dif_pos hq]

theorem gradH_k (h : Fin 44) (c : Fin 128) (hq : ¬ h.val < 36) (hk : h.val < 40) :
    Mx.gradH dq dk dv co si h c = Mx.rot (dk ⟨h.val - 36, by omega⟩) co si c := by
  unfold Mx.gradH; rw [dif_neg hq, dif_pos hk]

theorem rot_lo (x : Fin 128 → EReal) (c : Fin 128) (h : c.val < 64) :
    Mx.rot x co si c = x c * co ⟨c.val, h⟩ + x ⟨64 + c.val, by omega⟩ * si ⟨c.val, h⟩ := by
  unfold Mx.rot; rw [dif_pos h]

theorem rot_hi (x : Fin 128 → EReal) (c : Fin 128) (h : ¬ c.val < 64) :
    Mx.rot x co si c = x c * co ⟨c.val - 64, by omega⟩ - x ⟨c.val - 64, by omega⟩ * si ⟨c.val - 64, by omega⟩ := by
  unfold Mx.rot; rw [dif_neg h]

theorem gradH_v (h : Fin 44) (c : Fin 128) (hq : ¬ h.val < 36) (hk : ¬ h.val < 40) :
    Mx.gradH dq dk dv co si h c = dv ⟨h.val - 40, by omega⟩ c := by
  unfold Mx.gradH; rw [dif_neg hq, dif_neg hk]
end

section
variable (v0 v3 : Vec Ideal S5x384x64 .f32) (v6 : Vec Ideal S5x384x36x128 .bf16) (v21 v36 : Vec Ideal S5x384x4x128 .bf16)

/-- The gradient rotated back. -/
theorem pay2_apply (b : Fin 5) (t : Fin 384) (j : Fin 176) (x : Fin 32) : k0_pay2 v0 v3 v6 v21 v36 (ix4 b t j x) =
    Mx.grad (fun h c => v6 (ix4 b t h c)) (fun h c => v21 (ix4 b t h c)) (fun h c => v36 (ix4 b t h c))
      (fun f => v0 (ix3 b t f)) (fun f => v3 (ix3 b t f)) ⟨32 * j.val + x.val, by omega⟩ := by
  refine Eq.trans ?_ (congrArg₂ (fun h c => Mx.gradH (fun h c => v6 (ix4 b t h c)) (fun h c => v21 (ix4 b t h c)) (fun h c => v36 (ix4 b t h c))
      (fun f => v0 (ix3 b t f)) (fun f => v3 (ix3 b t f)) h c)
    (show (⟨j.val / 4, by omega⟩ : Fin 44) = ⟨(32 * j.val + x.val) / 128, by omega⟩ from Fin.ext (by dsimp only; omega))
    (show (⟨j.val % 4 * 32 + x.val, by omega⟩ : Fin 128) = ⟨(32 * j.val + x.val) % 128, by omega⟩ from Fin.ext (by dsimp only; omega)))
  pointwise [k0_pay2]
  by_cases hq : j.val / 4 < 36
  · refine (dif_pos hq).trans (Eq.trans ?_ (gradH_q _ _ _ _ _ ⟨j.val / 4, by omega⟩ ⟨j.val % 4 * 32 + x.val, by omega⟩ hq).symm)
    by_cases hc : j.val % 4 * 32 + x.val < 64
    · exact (dif_pos hc).trans (rot_lo (fun f => v0 (ix3 b t f)) (fun f => v3 (ix3 b t f)) (fun c => (v6 (ix4 b t ⟨j.val / 4, hq⟩ c) : EReal)) ⟨j.val % 4 * 32 + x.val, by omega⟩ hc).symm
    · refine (dif_neg hc).trans (Eq.trans ?_ (rot_hi (fun f => v0 (ix3 b t f)) (fun f => v3 (ix3 b t f)) (fun c => (v6 (ix4 b t ⟨j.val / 4, hq⟩ c) : EReal)) ⟨j.val % 4 * 32 + x.val, by omega⟩ hc).symm)
      refine congrArg (fun z : EReal => z * v0 (ix3 b t ⟨j.val % 4 * 32 + x.val - 64, by omega⟩) - (fun c => (v6 (ix4 b t ⟨j.val / 4, hq⟩ c) : EReal)) ⟨j.val % 4 * 32 + x.val - 64, by omega⟩ * v3 (ix3 b t ⟨j.val % 4 * 32 + x.val - 64, by omega⟩))
        (congrArg (fun c => (v6 (ix4 b t ⟨j.val / 4, hq⟩ c) : EReal)) (Fin.ext ?_))
      dsimp only; omega
  · refine (dif_neg hq).trans ?_
    by_cases hk : j.val / 4 < 40
    · refine (dif_pos (by omega)).trans (Eq.trans ?_ (gradH_k _ _ _ _ _ ⟨j.val / 4, by omega⟩ ⟨j.val % 4 * 32 + x.val, by omega⟩ hq hk).symm)
      by_cases hc : j.val % 4 * 32 + x.val < 64
      · exact (dif_pos hc).trans (rot_lo (fun f => v0 (ix3 b t f)) (fun f => v3 (ix3 b t f)) (fun c => (v21 (ix4 b t ⟨j.val / 4 - 36, by omega⟩ c) : EReal)) ⟨j.val % 4 * 32 + x.val, by omega⟩ hc).symm
      · refine (dif_neg hc).trans (Eq.trans ?_ (rot_hi (fun f => v0 (ix3 b t f)) (fun f => v3 (ix3 b t f)) (fun c => (v21 (ix4 b t ⟨j.val / 4 - 36, by omega⟩ c) : EReal)) ⟨j.val % 4 * 32 + x.val, by omega⟩ hc).symm)
        refine congrArg (fun z : EReal => z * v0 (ix3 b t ⟨j.val % 4 * 32 + x.val - 64, by omega⟩) - (fun c => (v21 (ix4 b t ⟨j.val / 4 - 36, by omega⟩ c) : EReal)) ⟨j.val % 4 * 32 + x.val - 64, by omega⟩ * v3 (ix3 b t ⟨j.val % 4 * 32 + x.val - 64, by omega⟩))
          (congrArg (fun c => (v21 (ix4 b t ⟨j.val / 4 - 36, by omega⟩ c) : EReal)) (Fin.ext ?_))
        dsimp only; omega
    · refine (dif_neg (by omega)).trans (Eq.trans ?_ (gradH_v _ _ _ _ _ ⟨j.val / 4, by omega⟩ ⟨j.val % 4 * 32 + x.val, by omega⟩ hq hk).symm)
      refine congrArg (fun h => v36 (ix4 b t h ⟨j.val % 4 * 32 + x.val, by omega⟩)) (Fin.ext ?_)
      dsimp only; omega
end

end Cert.ReferenceIdeal.Gen
-- ==== Proof.RPayB.lean ====
/- What the reference's body leaves, read at an index. -/
module

public import proofs.«01_k».proof.Proof.Spec
public import proofs.«01_k».proof.Proof.Gen.ReferenceIdeal.Frame
public import Idealize.ShloMosaic.Lib.Pipeline.ValueKit

@[expose] public section

set_option maxRecDepth 16384

noncomputable section

namespace Cert.ReferenceIdeal.Gen

open Idealize.ShloMosaic Idealize.ShloMosaic.TcCoe Idealize.ShloMosaic.Tactic Idealize.SL.Sem

/-- The largest of a group, before anything else reads it. -/
def red4 (v41 : FVec Ideal S5x384x176x32 .f32) : FVec Ideal S5x384x176 .f32 :=
  multiReduction .maximumf [3] S5x384x176 v41 0xFF800000#32 reduces_S5x384x176x32_S5x384x176 (.inl rfl) rfl

theorem red4_apply (v41 : FVec Ideal S5x384x176x32 .f32) (b : Fin 5) (t : Fin 384) (j : Fin 176) :
    red4 v41 (ix3 b t j) = Finset.univ.fold max (Ideal.ofBits .f32 0xFF800000#32) fun x : Fin 32 => v41 (ix4 b t j x) := by
  refine (Ideal.multiReduction_maximumf_single v41 _ reduces_S5x384x176x32_S5x384x176 (.inl rfl) rfl (ix3 b t j)).trans ?_
  refine congrArg (fun f => (Finset.univ : Finset (Fin 32)).fold max (Ideal.ofBits .f32 0xFF800000#32) f) (funext fun x => congrArg v41 ?_)
  funext a
  fin_cases a <;> rfl

/-- The shared exponents, from the largest of every group. -/
def exps4 (v42 : FVec Ideal S5x384x176 .f32) : IVec S5x384x176 32 :=
  have cst_17 : Ideal .f32 := Scalar.ofBits .f32 0x37924925#32
  have v43 : FVec Ideal S5x384x176 .f32 := broadcast S5x384x176 cst_17
  have v44 : FVec Ideal S5x384x176 .f32 := mulf v42 v43
  have v45 : FVec Ideal S5x384x176 .f32 := log v44
  have cst_18 : Ideal .f32 := Scalar.ofBits .f32 0x40000000#32
  have v46 : Ideal .f32 := Scalar.log cst_18
  have v47 : FVec Ideal S5x384x176 .f32 := broadcast S5x384x176 v46
  have v48 : FVec Ideal S5x384x176 .f32 := divf v45 v47
  have v49 : FVec Ideal S5x384x176 .f32 := floor v48
  have v50 : IVec S5x384x176 32 := fptosi 32 v49
  have v51 : IVec S5x384x176 32 := broadcast S5x384x176 1#32
  have v52 : IVec S5x384x176 32 := addi v50 v51
  have cst_19 : Ideal .f32 := Scalar.ofBits .f32 0x00800000#32
  have v53 : FVec Ideal S5x384x176 .f32 := broadcast S5x384x176 cst_19
  have v54 : IVec S5x384x176 1 := cmpf .olt v44 v53
  have v55 : IVec S5x384x176 32 := broadcast S5x384x176 0#32
  have v56 : IVec S5x384x176 32 := select v54 v55 v52
  v56

theorem exps4_apply (v42 : FVec Ideal S5x384x176 .f32) (b : Fin 5) (t : Fin 384) (j : Fin 176) :
    exps4 v42 (ix3 b t j) = Mx.rexp (v42 (ix3 b t j) * Ideal.ofBits .f32 0x37924925#32) := by
  pointwise [exps4]
  generalize v42 (ix3 b t j) * Ideal.ofBits .f32 932333861#32 = q
  unfold Mx.rexp
  by_cases h : q < Ideal.ofBits .f32 8388608#32
  · rw [if_pos h, decide_eq_true h]
    rfl
  · rw [if_neg h, decide_eq_false h]
    rfl

theorem pay4_red (v41 : FVec Ideal S5x384x176x32 .f32) : k0_pay4 v41 = exps4 (red4 v41) := by
  unfold k0_pay4 exps4 red4
  exact rfl

/-- The feature of a group's lane. -/
def feat (j : Fin 176) (x : Fin 32) : Fin 5632 := ⟨32 * j.val + x.val, by omega⟩

section
variable (g : FVec Ideal S5x384x176x32 .f32) (G : Fin 5 → Fin 384 → Fin 5632 → EReal)
  (hg : ∀ b t j x, g (ix4 b t j x) = G b t (feat j x))
include hg

/-- A group's shared exponent. -/
theorem pay4_apply (b : Fin 5) (t : Fin 384) (j : Fin 176) : k0_pay4 (absf g) (ix3 b t j) = Mx.rexp (Mx.gmax (G b t) j) := by
  refine ((congrFun (pay4_red (absf g)) (ix3 b t j)).trans (exps4_apply _ b t j)).trans (congrArg Mx.rexp ?_)
  unfold Mx.gmax
  refine congrArg (· * Ideal.ofBits .f32 0x37924925#32) ((red4_apply (absf g) b t j).trans ?_)
  refine congrArg (fun f => (Finset.univ : Finset (Fin 32)).fold max (Ideal.ofBits .f32 0xFF800000#32) f) (funext fun x => ?_)
  exact congrArg (FloatOps.absf (F := Ideal) (φ := .f32)) (hg b t j x)

/-- A code. -/
theorem pay5_apply (b : Fin 5) (t : Fin 384) (k : Fin 5632) : (k0_pay5 g (absf g) (ix3 b t k) : EReal) = Mx.rcode (G b t) k := by
  pointwise [k0_pay5]
  have hk : g (ix4 b t (Mx.grp k) ⟨k.val % 32, Nat.mod_lt _ (by omega)⟩) = G b t k := by
    refine (hg b t _ _).trans (congrArg (G b t) (Fin.ext ?_))
    show 32 * (k.val / 32) + k.val % 32 = k.val
    omega
  have he := pay4_apply g G hg b t (Mx.grp k)
  refine congrArg (fun r => min (Ideal.ofBits .f32 0x47600000#32) (max (Ideal.ofBits .f32 0xC7600000#32) r)) ?_
  refine congrArg₂ (fun (x y : EReal) => x * y) hk ?_
  exact congrArg (fun e => Ideal.exp2 (((IntOp.subi 0#32 e).toInt : ℝ) : EReal)) he

/-- A scale code. -/
theorem pay6_apply (b : Fin 5) (t : Fin 384) (j : Fin 176) : k0_pay6 (absf g) (ix3 b t j) = Mx.rscale (G b t) j :=
  congrArg (fun e => BitVec.setWidth 8 (IntOp.addi e 127#32)) (pay4_apply g G hg b t j)

/-- A code, by group. -/
theorem pay7_apply (b : Fin 5) (t : Fin 384) (j : Fin 176) (x : Fin 32) : (k0_pay7 g (absf g) (ix4 b t j x) : EReal) = Mx.rcode (G b t) (feat j x) := by
  pointwise [k0_pay7]
  refine Eq.trans ?_ (pay5_apply g G hg b t (feat j x))
  refine congrArg (k0_pay5 g (absf g)) (congrArg (fun k => ix3 b t k) (Fin.ext ?_))
  show _ = 32 * j.val + x.val
  dsimp only; omega

/-- A scale's value. -/
theorem pay9_apply (b : Fin 5) (t : Fin 384) (j : Fin 176) : Scalar.select (k0_pay9 (absf g) (ix3 b t j)) (k0_pay11 (F := Ideal) (ix3 b t j)) (k0_pay10 (absf g) (ix3 b t j)) = Mx.decE8 (Mx.rscale (G b t) j) := by
  refine Eq.trans ?_ (congrArg Mx.decE8 (pay6_apply g G hg b t j))
  rfl
end
end Cert.ReferenceIdeal.Gen
-- ==== Proof.RPayC.lean ====
/- What the reference's body leaves, read at an index. -/
module

public import proofs.«01_k».proof.Proof.Spec
public import proofs.«01_k».proof.Proof.Gen.ReferenceIdeal.Frame
public import Idealize.ShloMosaic.Lib.Pipeline.ValueKit

@[expose] public section

set_option maxRecDepth 16384

noncomputable section

namespace Cert.ReferenceIdeal.Gen

open Idealize.ShloMosaic Idealize.ShloMosaic.TcCoe Idealize.ShloMosaic.Tactic Idealize.SL.Sem

section
variable (v74 : Vec Ideal S5x384x176x32 .bf16) (v81 : IVec S5x384x176 1) (v85 v86 : FVec Ideal S5x384x176 .f32) (v93 : Vec Ideal S4608x5632 .fp8e4m3) (v96 : Vec Ideal S4608x176 .i8)

theorem pay1_apply (b : Fin 5) (t : Fin 384) (r : Fin 4608) : k0_pay1 v74 v81 v85 v86 v93 v96 (ix3 b t r) =
   ∑ k : Fin 5632, (v74 (ix4 b t (Mx.grp k) ⟨k.val % 32, Nat.mod_lt _ (by omega)⟩) * Scalar.select (v81 (ix3 b t (Mx.grp k))) (v86 (ix3 b t (Mx.grp k))) (v85 (ix3 b t (Mx.grp k)))) * (v93 (ix2 r k) * Mx.decE8 (v96 (ix2 r (Mx.grp k)))) := by
  pointwise [k0_pay1]
  refine Finset.sum_congr rfl fun k _ => ?_
  unfold Mx.decE8 Mx.grp Scalar.select
  rw [Mx.zero_bits]
  by_cases h : IntOp.cmpi CmpIPredicate.eq (BitVec.setWidth 32 (v96 (ix2 r ⟨k.val / 32, by omega⟩))) 0#32 = 1
  · rw [if_pos h, if_pos h, mul_zero, mul_zero]
  · rw [if_neg h, if_neg h]
    rfl
end
end Cert.ReferenceIdeal.Gen
-- ==== Proof.ROut.lean ====
/- The three results of the reference, as functions of its arguments. -/
module

public import proofs.«01_k».proof.Proof.RPayA
public import proofs.«01_k».proof.Proof.RPayB
public import proofs.«01_k».proof.Proof.RPayC
public import proofs.«01_k».proof.Proof.Freq

@[expose] public section

set_option maxRecDepth 16384

noncomputable section

namespace Cert.ReferenceIdeal.Gen

open Idealize.ShloMosaic Idealize.ShloMosaic.TcCoe Idealize.ShloMosaic.Tactic Idealize.SL.Sem

variable (m : (ℓ : Loc nD τ sig) → Buf (Elt Ideal) ℓ) (ρ : Dev nD → PrngReg)

theorem V_v17 (c : Dev nD) (b : Fin 5) (t : Fin 384) (f : Fin 64) : (V m c main_v17 : Vec Ideal S5x384x64 .f32) (ix3 b t f)
    = Ideal.cos (Mx.ang ((m ((c : Thread nD τ).loc main_arg3) : Vec Ideal S5x384 .i32) (ix2 b t)) f) := by
  show StableHlo.after hostOps0 (fun b => m (c, b)) (Proc.devRef .tc main_v17) (ix3 b t f) = _
  after_results
  pointwise
  rfl

theorem V_v18 (c : Dev nD) (b : Fin 5) (t : Fin 384) (f : Fin 64) : (V m c main_v18 : Vec Ideal S5x384x64 .f32) (ix3 b t f)
    = Ideal.sin (Mx.ang ((m ((c : Thread nD τ).loc main_arg3) : Vec Ideal S5x384 .i32) (ix2 b t)) f) := by
  show StableHlo.after hostOps0 (fun b => m (c, b)) (Proc.devRef .tc main_v18) (ix3 b t f) = _
  after_results
  pointwise
  rfl

/-- The gradient of batch `b`, token `tok`, from the arguments. -/
def gM (c : Dev nD) (b : Fin 5) (tok : Fin 384) : Fin 5632 → EReal :=
  Mx.grad (fun h f => (m ((c : Thread nD τ).loc main_arg0) : Vec Ideal S5x384x36x128 .bf16) (ix4 b tok h f))
    (fun h f => (m ((c : Thread nD τ).loc main_arg1) : Vec Ideal S5x384x4x128 .bf16) (ix4 b tok h f))
    (fun h f => (m ((c : Thread nD τ).loc main_arg2) : Vec Ideal S5x384x4x128 .bf16) (ix4 b tok h f))
    (fun f => Ideal.cos (Mx.ang ((m ((c : Thread nD τ).loc main_arg3) : Vec Ideal S5x384 .i32) (ix2 b tok)) f))
    (fun f => Ideal.sin (Mx.ang ((m ((c : Thread nD τ).loc main_arg3) : Vec Ideal S5x384 .i32) (ix2 b tok)) f))

/-- The product. -/
def oDx (c : Dev nD) : Vec Ideal S5x384x4608 .bf16 := fun y =>
  Mx.rdx (gM m c (y 0) (y 1)) (fun k => (m ((c : Thread nD τ).loc main_arg4) : Vec Ideal S4608x5632 .fp8e4m3) (ix2 (y 2) k))
    (fun j => (m ((c : Thread nD τ).loc main_arg5) : Vec Ideal S4608x176 .i8) (ix2 (y 2) j))

/-- The codes. -/
def oCodes (c : Dev nD) : Vec Ideal S5x384x5632 .fp8e5m2 := fun y => Mx.rcode (gM m c (y 0) (y 1)) (y 2)

/-- The scale codes. -/
def oScales (c : Dev nD) : Vec Ideal S5x384x176 .i8 := fun y => Mx.rscale (gM m c (y 0) (y 1)) (y 2)

theorem ld0 (x : Vec Ideal S5x384x64 .f32) : View.ld x r0_0 = x := by
  funext i
  refine (congrArg _ (eq_ix3 i)).trans (Eq.trans ?_ (congrArg x (eq_ix3 i)).symm)
  pointwise

theorem ld1 (x : Vec Ideal S5x384x36x128 .bf16) : View.ld x r0_1 = x := by
  funext i
  refine (congrArg _ (eq_ix4 i)).trans (Eq.trans ?_ (congrArg x (eq_ix4 i)).symm)
  pointwise

theorem ld2 (x : Vec Ideal S5x384x4x128 .bf16) : View.ld x r0_2 = x := by
  funext i
  refine (congrArg _ (eq_ix4 i)).trans (Eq.trans ?_ (congrArg x (eq_ix4 i)).symm)
  pointwise

theorem ld3 (x : Vec Ideal S4608x5632 .fp8e4m3) : View.ld x r0_3 = x := by
  funext i
  refine (congrArg _ (eq_ix2 i)).trans (Eq.trans ?_ (congrArg x (eq_ix2 i)).symm)
  pointwise

theorem ld4 (x : Vec Ideal S4608x176 .i8) : View.ld x r0_4 = x := by
  funext i
  refine (congrArg _ (eq_ix2 i)).trans (Eq.trans ?_ (congrArg x (eq_ix2 i)).symm)
  pointwise

theorem idxI : ∀ t : Fin cfg0.N, win0_0.index t = ![0, 0, 0, 0] ∧ win0_1.index t = ![0, 0, 0, 0] ∧ win0_2.index t = ![0, 0, 0, 0]
    ∧ win0_3.index t = ![0, 0, 0] ∧ win0_4.index t = ![0, 0, 0] ∧ win0_5.index t = ![0, 0] ∧ win0_6.index t = ![0, 0]
    ∧ win0_7.index t = ![0, 0, 0] ∧ win0_8.index t = ![0, 0, 0] ∧ win0_9.index t = ![0, 0, 0] := by decide +kernel

theorem ib0 (c : Dev nD) (t : Fin cfg0.N) : iblk m c 0 t = V m c main_arg0 := by
  funext y
  blk_ext [iblk, V, (idxI t).1]

theorem ib1 (c : Dev nD) (t : Fin cfg0.N) : iblk m c 1 t = V m c main_arg1 := by
  funext y
  blk_ext [iblk, V, (idxI t).2.1]

theorem ib2 (c : Dev nD) (t : Fin cfg0.N) : iblk m c 2 t = V m c main_arg2 := by
  funext y
  blk_ext [iblk, V, (idxI t).2.2.1]

theorem ib3 (c : Dev nD) (t : Fin cfg0.N) : iblk m c 3 t = V m c main_v17 := by
  funext y
  blk_ext [iblk, V, (idxI t).2.2.2.1]

theorem ib4 (c : Dev nD) (t : Fin cfg0.N) : iblk m c 4 t = V m c main_v18 := by
  funext y
  blk_ext [iblk, V, (idxI t).2.2.2.2.1]

theorem ib5 (c : Dev nD) (t : Fin cfg0.N) : iblk m c 5 t = V m c main_arg4 := by
  funext y
  blk_ext [iblk, V, (idxI t).2.2.2.2.2.1]

theorem ib6 (c : Dev nD) (t : Fin cfg0.N) : iblk m c 6 t = V m c main_arg5 := by
  funext y
  blk_ext [iblk, V, (idxI t).2.2.2.2.2.2.1]

/-- The rotated gradient the body works on. -/
theorem pay12_apply (c : Dev nD) (t : Fin cfg0.N) (b : Fin 5) (tok : Fin 384) (j : Fin 176) (x : Fin 32) :
    k0_pay12 (iblk m c 0 t) (iblk m c 1 t) (iblk m c 2 t) (iblk m c 3 t) (iblk m c 4 t) (iblk m c 5 t) (iblk m c 6 t) (ix4 b tok j x)
      = gM m c b tok (feat j x) := by
  unfold k0_pay12
  rw [ld0, ld0, ld1, ld2, ld2, ib0, ib1, ib2, ib3, ib4]
  refine (pay2_apply _ _ _ _ _ b tok j x).trans ?_
  unfold gM
  rw [V_main_arg0, V_main_arg1, V_main_arg2]
  exact congrArg₂ (fun co si => Mx.grad _ _ _ co si _) (funext fun f => V_v17 m c b tok f) (funext fun f => V_v18 m c b tok f)

theorem pay13_eq (c : Dev nD) (t : Fin cfg0.N) :
    k0_pay13 (iblk m c 0 t) (iblk m c 1 t) (iblk m c 2 t) (iblk m c 3 t) (iblk m c 4 t) (iblk m c 5 t) (iblk m c 6 t)
      = absf (k0_pay12 (iblk m c 0 t) (iblk m c 1 t) (iblk m c 2 t) (iblk m c 3 t) (iblk m c 4 t) (iblk m c 5 t) (iblk m c 6 t)) := by
  unfold k0_pay13 k0_pay12 k0_pay3
  exact rfl

theorem pt8 (c : Dev nD) (t : Fin cfg0.N) (y : S5x384x5632.Idx) :
    k0_pay5 (k0_pay12 (iblk m c 0 t) (iblk m c 1 t) (iblk m c 2 t) (iblk m c 3 t) (iblk m c 4 t) (iblk m c 5 t) (iblk m c 6 t))
      (k0_pay13 (iblk m c 0 t) (iblk m c 1 t) (iblk m c 2 t) (iblk m c 3 t) (iblk m c 4 t) (iblk m c 5 t) (iblk m c 6 t)) y = oCodes m c y := by
  rw [pay13_eq]
  exact (congrArg _ (eq_ix3 y)).trans (pay5_apply _ (gM m c) (pay12_apply m c t) (y 0) (y 1) (y 2))

theorem pt9 (c : Dev nD) (t : Fin cfg0.N) (y : S5x384x176.Idx) :
    k0_pay6 (k0_pay13 (iblk m c 0 t) (iblk m c 1 t) (iblk m c 2 t) (iblk m c 3 t) (iblk m c 4 t) (iblk m c 5 t) (iblk m c 6 t)) y = oScales m c y := by
  rw [pay13_eq]
  exact (congrArg _ (eq_ix3 y)).trans (pay6_apply _ (gM m c) (pay12_apply m c t) (y 0) (y 1) (y 2))

/-- The product at an index, from a gradient array. -/
theorem dx_apply (g : FVec Ideal S5x384x176x32 .f32) (G : Fin 5 → Fin 384 → Fin 5632 → EReal)
    (hg : ∀ b t j x, g (ix4 b t j x) = G b t (feat j x))
    (v93 : Vec Ideal S4608x5632 .fp8e4m3) (v96 : Vec Ideal S4608x176 .i8) (b : Fin 5) (t : Fin 384) (r : Fin 4608) :
    (k0_pay1 (k0_pay7 g (absf g)) (k0_pay9 (absf g)) (k0_pay10 (absf g)) (k0_pay11 (F := Ideal)) v93 v96 (ix3 b t r) : EReal)
      = Mx.rdx (G b t) (fun k => v93 (ix2 r k)) (fun j => v96 (ix2 r j)) := by
  refine (pay1_apply _ _ _ _ _ _ b t r).trans ?_
  unfold Mx.rdx
  refine Finset.sum_congr rfl fun k _ => ?_
  refine congrArg₂ (fun (x y : EReal) => x * y) (congrArg₂ (fun (x y : EReal) => x * y) ?_ (pay9_apply g G hg b t (Mx.grp k))) rfl
  refine (pay7_apply g G hg b t (Mx.grp k) ⟨k.val % 32, Nat.mod_lt _ (by omega)⟩).trans (congrArg (Mx.rcode (G b t)) (Fin.ext ?_))
  show 32 * (k.val / 32) + k.val % 32 = k.val
  omega

theorem pt7 (c : Dev nD) (t : Fin cfg0.N) (y : S5x384x4608.Idx) :
    k0_pay1 (k0_pay7 (k0_pay12 (iblk m c 0 t) (iblk m c 1 t) (iblk m c 2 t) (iblk m c 3 t) (iblk m c 4 t) (iblk m c 5 t) (iblk m c 6 t))
        (k0_pay13 (iblk m c 0 t) (iblk m c 1 t) (iblk m c 2 t) (iblk m c 3 t) (iblk m c 4 t) (iblk m c 5 t) (iblk m c 6 t)))
      (k0_pay9 (k0_pay13 (iblk m c 0 t) (iblk m c 1 t) (iblk m c 2 t) (iblk m c 3 t) (iblk m c 4 t) (iblk m c 5 t) (iblk m c 6 t)))
      (k0_pay10 (k0_pay13 (iblk m c 0 t) (iblk m c 1 t) (iblk m c 2 t) (iblk m c 3 t) (iblk m c 4 t) (iblk m c 5 t) (iblk m c 6 t)))
      (k0_pay11 (F := Ideal)) (iblk m c 5 t) (iblk m c 6 t) y = oDx m c y := by
  rw [pay13_eq]
  refine (congrArg _ (eq_ix3 y)).trans ((dx_apply _ (gM m c) (pay12_apply m c t) (iblk m c 5 t) (iblk m c 6 t) (y 0) (y 1) (y 2)).trans ?_)
  rw [ib5, ib6, V_main_arg4, V_main_arg5]
  rfl

theorem arr7 (c : Dev nD) : (dats m 0 c).arrAt 7 cfg0.N = oDx m c := by
  refine (dats m 0 c).arrAt_eq_of_covers 7 _ (by decide +kernel) fun t hf y => ?_
  blk_simp
  rw [after0_7]
  unfold out0_7
  rw [ld3, ld4]
  frame_out
  refine (pt7 m c t y).trans (congrArg (oDx m c) ?_)
  blk_ext [(idxI t).2.2.2.2.2.2.2.1]

theorem arr8 (c : Dev nD) : (dats m 0 c).arrAt 8 cfg0.N = oCodes m c := by
  refine (dats m 0 c).arrAt_eq_of_covers 8 _ (by decide +kernel) fun t hf y => ?_
  blk_simp
  rw [after0_8]
  unfold out0_8
  frame_out
  refine (pt8 m c t y).trans (congrArg (oCodes m c) ?_)
  blk_ext [(idxI t).2.2.2.2.2.2.2.2.1]

theorem arr9 (c : Dev nD) : (dats m 0 c).arrAt 9 cfg0.N = oScales m c := by
  refine (dats m 0 c).arrAt_eq_of_covers 9 _ (by decide +kernel) fun t hf y => ?_
  blk_simp
  rw [after0_9]
  unfold out0_9
  frame_out
  refine (pt9 m c t y).trans (congrArg (oScales m c) ?_)
  blk_ext [(idxI t).2.2.2.2.2.2.2.2.2]

theorem out_of (r : PUnit × MemSt nD τ sig (Elt Ideal)) (h : Pipeline.FramePost cfgs (dats m) 0 (V m) r) (c : Dev nD) :
    r.2.mem ((c.tc : Thread nD τ).loc main_v19_0) = oDx m c ∧ r.2.mem ((c.tc : Thread nD τ).loc main_v19_1) = oCodes m c
      ∧ r.2.mem ((c.tc : Thread nD τ).loc main_v19_2) = oScales m c :=
  ⟨((h c).1 7).trans (arr7 m c), ((h c).1 8).trans (arr8 m c), ((h c).1 9).trans (arr9 m c)⟩

end Cert.ReferenceIdeal.Gen
-- ==== Proof.PreDec.lean ====
/- What the precondition says of one element. -/
module

public import proofs.«01_k».proof.Proof.Spec
public import proofs.«01_k».proof.Pre_finite_grads
public import Idealize.ShloMosaic.Lib.ReduceAll

@[expose] public section

set_option maxRecDepth 16384

noncomputable section

namespace Cert.Pre_finite_grads

open Idealize.ShloMosaic

variable [Facts]

instance : Subsingleton S_.Idx := ⟨fun a b => funext fun i => i.elim0⟩

theorem andi_one {a b : BitVec 1} (h : IntOp.andi a b = 1#1) : a = 1#1 ∧ b = 1#1 := by
  revert h; unfold IntOp.andi; revert a b; decide

theorem top_bits : Ideal.ofBits .bf16 0x7F7F#16 ≤ (((2 : ℝ) ^ (128 : ℤ) : ℝ) : EReal) := by
  have ha : ((0x7F7F#16 : BitVec 16).extractLsb' 15 1 == 1#1) = false := by decide
  have hb : ((0x7F7F#16 : BitVec 16).extractLsb' 7 8).toNat = 254 := by decide
  have hc : ((0x7F7F#16 : BitVec 16).extractLsb' 0 7).toNat = 127 := by decide
  rw [show Ideal.ofBits .bf16 0x7F7F#16 = Ideal.ieee 8 7 0x7F7F#16 from rfl]
  unfold Ideal.ieee
  dsimp only
  rw [ha, hb, hc, if_neg (by omega), if_neg (by omega)]
  refine EReal.coe_le_coe_iff.mpr ?_
  norm_num

theorem le_top {x : EReal} (h : BitVec.ofBool (decide (max x (-x) ≤ Ideal.ofBits .bf16 0x7F7F#16)) = 1#1) :
    max x (-x) ≤ (((2 : ℝ) ^ (128 : ℤ) : ℝ) : EReal) := by
  have h1 : max x (-x) ≤ Ideal.ofBits .bf16 0x7F7F#16 := by
    by_contra hn
    rw [decide_eq_false hn] at h
    exact absurd h (by decide)
  exact h1.trans top_bits

/-- Every entry of the three gradients is a number below 2 to the 128. -/
theorem decode (a0 : FVec Ideal S5x384x36x128 .bf16) (a1 a2 : FVec Ideal S5x384x4x128 .bf16) (a3 : IVec S5x384 32)
    (a4 : FVec Ideal S4608x5632 .fp8e4m3) (a5 : IVec S4608x176 8) (h : fn (F := Ideal) a0 a1 a2 a3 a4 a5 = fun _ => 1#1) :
    (∀ i, max (a0 i : EReal) (-(a0 i)) ≤ (((2 : ℝ) ^ (128 : ℤ) : ℝ) : EReal))
      ∧ (∀ i, max (a1 i : EReal) (-(a1 i)) ≤ (((2 : ℝ) ^ (128 : ℤ) : ℝ) : EReal))
      ∧ (∀ i, max (a2 i : EReal) (-(a2 i)) ≤ (((2 : ℝ) ^ (128 : ℤ) : ℝ) : EReal)) := by
  have h0 := congrFun h (Shape.Idx.first Facts.h_S_)
  dsimp only [fn] at h0
  obtain ⟨h01, h2⟩ := andi_one h0
  obtain ⟨h0, h1⟩ := andi_one h01
  exact ⟨fun i => le_top (Host.reduce_andi_all _ _ _ _ _ h0 i), fun i => le_top (Host.reduce_andi_all _ _ _ _ _ h1 i),
    fun i => le_top (Host.reduce_andi_all _ _ _ _ _ h2 i)⟩

end Cert.Pre_finite_grads
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite_grads
public import proofs.«01_k».proof.Proof.FFrame
public import proofs.«01_k».proof.Proof.KOut
public import proofs.«01_k».proof.Proof.ROut
public import proofs.«01_k».proof.Proof.PreDec
public import Idealize.ShloMosaic.Adequacy
public import Idealize.ShloMosaic.Init

@[expose] public section

noncomputable section

namespace Cert.Proof

open Idealize.ShloMosaic Idealize.SL.Sem Cert.Kernel

/-- The two arithmetics give one set of results, at every device. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hp : Pre_KernelIdeal_finite_grads (hPre_finite_grads := Cert.Pre_finite_grads.Gen.facts) m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Gen.oDx m' c = Cert.KernelIdeal.Gen.oDx m c ∧ Cert.ReferenceIdeal.Gen.oCodes m' c = Cert.KernelIdeal.Gen.oCodes m c
      ∧ Cert.ReferenceIdeal.Gen.oScales m' c = Cert.KernelIdeal.Gen.oScales m c := by
  have hd := @Cert.Pre_finite_grads.decode Cert.Pre_finite_grads.Gen.facts _ _ _ _ _ _ (hp c)
  have hg : ∀ b tok k, max (Cert.KernelIdeal.Gen.gM m c b tok k) (-(Cert.KernelIdeal.Gen.gM m c b tok k)) ≤ (((2 : ℝ) ^ (129 : ℤ) : ℝ) : EReal) := fun b tok k => by
    unfold Cert.KernelIdeal.Gen.gM
    exact Mx.grad_bound _ _ _ _ _ (fun _ _ => hd.1 _) (fun _ _ => hd.2.1 _) (fun _ _ => hd.2.2 _) (fun _ => Mx.cos_bound _ _) (fun _ => Mx.sin_bound _ _) k
  have e : ∀ b tok, Cert.ReferenceIdeal.Gen.gM m' c b tok = Cert.KernelIdeal.Gen.gM m c b tok := fun b tok => by
    unfold Cert.ReferenceIdeal.Gen.gM Cert.KernelIdeal.Gen.gM
    rw [h0, h1, h2, h3]
  refine ⟨funext fun y => ?_, funext fun y => ?_, funext fun y => ?_⟩
  · refine Eq.trans ?_ (Mx.dx_eq _ (hg (y 0) (y 1)) _ _).symm
    unfold Cert.ReferenceIdeal.Gen.oDx
    rw [h4, h5]
    exact congrArg (fun G => Mx.rdx G _ _) (e (y 0) (y 1))
  · exact (congrArg (fun G => Mx.rcode G (y 2)) (e (y 0) (y 1))).trans (Mx.code_eq _ (hg (y 0) (y 1)) (y 2)).symm
  · exact (congrArg (fun G => Mx.rscale G (y 2)) (e (y 0) (y 1))).trans (Mx.scale_eq _ (hg (y 0) (y 1)) (y 2)).symm

theorem claim : Cert.Claim := ⟨Cert.Kernel.Gen.facts, Cert.KernelIdeal.Gen.facts, Cert.ReferenceIdeal.Gen.facts, Cert.Pre_finite_grads.Gen.facts,
  fun m g _ => Cert.Kernel.Gen.frame m g,
  fun m g _ => Cert.KernelIdeal.Gen.frame m g,
  fun m g _ => Cert.KernelIdeal.Gen.frame m g,
  fun m g _ => Cert.ReferenceIdeal.Gen.frame m g,
  fun m g _ => Cert.ReferenceIdeal.Gen.frame m g,
  trivial,
  fun m g m' g' hp hm => ⟨Cert.KernelIdeal.Gen.oDx m, Cert.KernelIdeal.Gen.oCodes m, Cert.KernelIdeal.Gen.oScales m,
    (θ_run _ _ _).mono (fun r h c => ⟨(Cert.KernelIdeal.Gen.out_of m r h.1 c).1, (Cert.KernelIdeal.Gen.out_of m r h.1 c).2.1,
        (Cert.KernelIdeal.Gen.out_of m r h.1 c).2.2, h.2.1 c⟩)
      (θ_run_and (Cert.KernelIdeal.Gen.run_main m g) (Cert.KernelIdeal.Gen.frame m g)),
    (θ_run _ _ _).mono (fun r h c => by
        have e := results_eq m m' hp c (hm c).1 (hm c).2.1 (hm c).2.2.1 (hm c).2.2.2.1 (hm c).2.2.2.2.1 (hm c).2.2.2.2.2
        have o := Cert.ReferenceIdeal.Gen.out_of m' r h.1 c
        exact ⟨o.1.trans e.1, o.2.1.trans e.2.1, o.2.2.trans e.2.2, h.2.1 c⟩)
      (θ_run_and (Cert.ReferenceIdeal.Gen.run_main m' g') (Cert.ReferenceIdeal.Gen.frame m' g'))⟩⟩

end Cert.Proof

end
